-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)) (v6 : (c : Dev Cert.KernelIdeal.nD) → Buf (Elt Ideal) ((c.tc : Thread Cert.KernelIdeal.nD Cert.KernelIdeal.τ).loc Cert.KernelIdeal.main_v2_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_v2_5) = v5 c
          ∧ r.2.mem ((c.tc : Thread Cert.KernelIdeal.nD Cert.KernelIdeal.τ).loc Cert.KernelIdeal.main_v2_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_v35) = v3 c
          ∧ r.2.mem ((c.tc : Thread Cert.ReferenceIdeal.nD Cert.ReferenceIdeal.τ).loc Cert.ReferenceIdeal.main_v36) = v4 c
          ∧ r.2.mem ((c.tc : Thread Cert.ReferenceIdeal.nD Cert.ReferenceIdeal.τ).loc Cert.ReferenceIdeal.main_v28) = v5 c
          ∧ r.2.mem ((c.tc : Thread Cert.ReferenceIdeal.nD Cert.ReferenceIdeal.τ).loc Cert.ReferenceIdeal.main_v30) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x3584 : Shape := ⟨3, ![2, 1024, 3584]⟩
abbrev S1152x3584 : Shape := ⟨2, ![1152, 3584]⟩
abbrev S1152 : Shape := ⟨1, ![1152]⟩
abbrev S64x3584 : Shape := ⟨2, ![64, 3584]⟩
abbrev S1152x64 : Shape := ⟨2, ![1152, 64]⟩
abbrev S2x1024x1152 : Shape := ⟨3, ![2, 1024, 1152]⟩
abbrev S2x1024 : Shape := ⟨2, ![2, 1024]⟩
abbrev S1x1152 : Shape := ⟨2, ![1, 1152]⟩
abbrev S2x1024x64 : Shape := ⟨3, ![2, 1024, 64]⟩
abbrev S1x512x3584 : Shape := ⟨3, ![1, 512, 3584]⟩
abbrev S1x512x1152 : Shape := ⟨3, ![1, 512, 1152]⟩
abbrev S1x512x64 : Shape := ⟨3, ![1, 512, 64]⟩
abbrev S2048x128 : Shape := ⟨2, ![2048, 128]⟩
abbrev S512x1152 : Shape := ⟨2, ![512, 1152]⟩
abbrev S64x1152 : Shape := ⟨2, ![64, 1152]⟩
abbrev S8x1152 : Shape := ⟨2, ![8, 1152]⟩
abbrev S1x128 : Shape := ⟨2, ![1, 128]⟩
abbrev S128x128 : Shape := ⟨2, ![128, 128]⟩
abbrev S128x64 : Shape := ⟨2, ![128, 64]⟩
abbrev S128x3584 : Shape := ⟨2, ![128, 3584]⟩
abbrev S128 : Shape := ⟨1, ![128]⟩
abbrev S512x3584 : Shape := ⟨2, ![512, 3584]⟩
abbrev S512x64 : Shape := ⟨2, ![512, 64]⟩
abbrev S1x128x128 : Shape := ⟨3, ![1, 128, 128]⟩
abbrev S8x128 : Shape := ⟨2, ![8, 128]⟩
abbrev S16x8x128 : Shape := ⟨3, ![16, 8, 128]⟩
abbrev S64x512 : Shape := ⟨2, ![64, 512]⟩

abbrev nBuf : Space → Nat
  | .hbm => 17
  | .vmem => 30
  | .smem => 0
  | _ => 0

abbrev bufTy : (tb : Table) → Fin (tcTables nBuf tb) → BufTy
  | .hbm, ⟨0, _⟩ => ⟨S2x1024x3584, .bf16⟩
  | .hbm, ⟨1, _⟩ => ⟨S1152x3584, .fp8e4m3⟩
  | .hbm, ⟨2, _⟩ => ⟨S1152, .f32⟩
  | .hbm, ⟨3, _⟩ => ⟨S64x3584, .bf16⟩
  | .hbm, ⟨4, _⟩ => ⟨S1152x64, .bf16⟩
  | .hbm, ⟨5, _⟩ => ⟨S1152, .f32⟩
  | .hbm, ⟨6, _⟩ => ⟨S2x1024x1152, .fp8e5m2⟩
  | .hbm, ⟨7, _⟩ => ⟨S2x1024, .f32⟩
  | .hbm, ⟨8, _⟩ => ⟨S1x1152, .f32⟩
  | .hbm, ⟨9, _⟩ => ⟨S1x1152, .f32⟩
  | .hbm, ⟨10, _⟩ => ⟨S2x1024x3584, .bf16⟩
  | .hbm, ⟨11, _⟩ => ⟨S64x3584, .bf16⟩
  | .hbm, ⟨12, _⟩ => ⟨S1152x64, .bf16⟩
  | .hbm, ⟨13, _⟩ => ⟨S1x1152, .f32⟩
  | .hbm, ⟨14, _⟩ => ⟨S2x1024x1152, .bf16⟩
  | .hbm, ⟨15, _⟩ => ⟨S2x1024x64, .bf16⟩
  | .hbm, ⟨16, _⟩ => ⟨S2x1024x64, .bf16⟩
  | .local _ .vmem, ⟨0, _⟩ => ⟨S1x512x3584, .bf16⟩
  | .local _ .vmem, ⟨1, _⟩ => ⟨S1x512x3584, .bf16⟩
  | .local _ .vmem, ⟨2, _⟩ => ⟨S1152x3584, .fp8e4m3⟩
  | .local _ .vmem, ⟨3, _⟩ => ⟨S1x1152, .f32⟩
  | .local _ .vmem, ⟨4, _⟩ => ⟨S64x3584, .bf16⟩
  | .local _ .vmem, ⟨5, _⟩ => ⟨S1152x64, .bf16⟩
  | .local _ .vmem, ⟨6, _⟩ => ⟨S1x1152, .f32⟩
  | .local _ .vmem, ⟨7, _⟩ => ⟨S1x512x1152, .fp8e5m2⟩
  | .local _ .vmem, ⟨8, _⟩ => ⟨S1x512x1152, .fp8e5m2⟩
  | .local _ .vmem, ⟨9, _⟩ => ⟨S2x1024, .f32⟩
  | .local _ .vmem, ⟨10, _⟩ => ⟨S1x512x3584, .bf16⟩
  | .local _ .vmem, ⟨11, _⟩ => ⟨S1x512x3584, .bf16⟩
  | .local _ .vmem, ⟨12, _⟩ => ⟨S64x3584, .bf16⟩
  | .local _ .vmem, ⟨13, _⟩ => ⟨S1152x64, .bf16⟩
  | .local _ .vmem, ⟨14, _⟩ => ⟨S1x1152, .f32⟩
  | .local _ .vmem, ⟨15, _⟩ => ⟨S1x512x1152, .bf16⟩
  | .local _ .vmem, ⟨16, _⟩ => ⟨S1x512x1152, .bf16⟩
  | .local _ .vmem, ⟨17, _⟩ => ⟨S1x512x64, .bf16⟩
  | .local _ .vmem, ⟨18, _⟩ => ⟨S1x512x64, .bf16⟩
  | .local _ .vmem, ⟨19, _⟩ => ⟨S1x512x64, .bf16⟩
  | .local _ .vmem, ⟨20, _⟩ => ⟨S1x512x64, .bf16⟩
  | .local _ .vmem, ⟨21, _⟩ => ⟨S1152x3584, .bf16⟩
  | .local _ .vmem, ⟨22, _⟩ => ⟨S1x1152, .f32⟩
  | .local _ .vmem, ⟨23, _⟩ => ⟨S1x1152, .f32⟩
  | .local _ .vmem, ⟨24, _⟩ => ⟨S2048x128, .f32⟩
  | .local _ .vmem, ⟨25, _⟩ => ⟨S512x1152, .bf16⟩
  | .local _ .vmem, ⟨26, _⟩ => ⟨S64x1152, .bf16⟩
  | .local _ .vmem, ⟨27, _⟩ => ⟨S64x3584, .f32⟩
  | .local _ .vmem, ⟨28, _⟩ => ⟨S64x1152, .f32⟩
  | .local _ .vmem, ⟨29, _⟩ => ⟨S8x1152, .f32⟩
  | _, _ => ⟨S2x1024x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev main_v2_5 : Ref sig .tc := ⟨.hbm, 15, rfl⟩
abbrev main_v2_6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_scratch7 : Ref sig .tc := ⟨.vmem, 28, rfl⟩
abbrev cc0_scratch8 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![4], ![false]⟩

def k0_mult1 (i : grid0.Coords) : BitVec 32 :=
  let arg0 : BitVec 32 := BitVec.ofNat 32 (i 0).val
  let c512_i32 : BitVec 32 := 512#32
  let v17 : BitVec 32 := Scalar.muli arg0 c512_i32
  let c0_i32_14 : BitVec 32 := 0#32
  let v18 : BitVec 32 := Scalar.addi v17 c0_i32_14
  v18
def k0_off1 (i : grid0.Coords) (c0_i32_14 : BitVec 32) : Fin 2 → Nat :=
  let arg0 : BitVec 32 := BitVec.ofNat 32 (i 0).val
  let c512_i32 : BitVec 32 := 512#32
  let v17 : BitVec 32 := Scalar.muli arg0 c512_i32
  let v18 : BitVec 32 := Scalar.addi v17 c0_i32_14
  let v19 : BitVec 32 := v18
  let v20 : Index := Scalar.indexCast v19
  let c0_15 : Index := 0#32
  ![v20.toNat, 0]
def k0_mult2 (i : grid0.Coords) : BitVec 32 :=
  let arg0 : BitVec 32 := BitVec.ofNat 32 (i 0).val
  let c512_i32_116 : BitVec 32 := 512#32
  let v202 : BitVec 32 := Scalar.muli arg0 c512_i32_116
  let c128_i32 : BitVec 32 := 128#32
  let v203 : BitVec 32 := Scalar.addi v202 c128_i32
  v203
def k0_mult3 (i : grid0.Coords) : BitVec 32 :=
  let arg0 : BitVec 32 := BitVec.ofNat 32 (i 0).val
  let c512_i32_226 : BitVec 32 := 512#32
  let v387 : BitVec 32 := Scalar.muli arg0 c512_i32_226
  let c256_i32 : BitVec 32 := 256#32
  let v388 : BitVec 32 := Scalar.addi v387 c256_i32
  v388
def k0_mult4 (i : grid0.Coords) : BitVec 32 :=
  let arg0 : BitVec 32 := BitVec.ofNat 32 (i 0).val
  let c512_i32_336 : BitVec 32 := 512#32
  let v572 : BitVec 32 := Scalar.muli arg0 c512_i32_336
  let c384_i32 : BitVec 32 := 384#32
  let v573 : BitVec 32 := Scalar.addi v572 c384_i32
  v573
def k0_cond2 (i : grid0.Coords) : BitVec 1 :=
  let arg0 : BitVec 32 := BitVec.ofNat 32 (i 0).val
  let c3_i32 : BitVec 32 := 3#32
  let v786 : BitVec 1 := Scalar.cmpi .eq arg0 c3_i32
  let v787 : BitVec 32 := Scalar.extui v786
  let c0_i32_470 : BitVec 32 := 0#32
  let v788 : BitVec 1 := Scalar.cmpi .ne v787 c0_i32_470
  v788

def cc0_transform_0 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_13 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_14 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1x512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1152x3584 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1152x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1152 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x1152 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x512x3584 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S64x3584 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1152x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1152 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x512x1152 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x64 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x512x64 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S2x1024x3584 : Shape := ⟨3, ![2, 1024, 3584]⟩
abbrev S1152x3584 : Shape := ⟨2, ![1152, 3584]⟩
abbrev S1152 : Shape := ⟨1, ![1152]⟩
abbrev S64x3584 : Shape := ⟨2, ![64, 3584]⟩
abbrev S1152x64 : Shape := ⟨2, ![1152, 64]⟩
abbrev S2x1024x1152 : Shape := ⟨3, ![2, 1024, 1152]⟩
abbrev S2x1024 : Shape := ⟨2, ![2, 1024]⟩
abbrev S1152x1 : Shape := ⟨2, ![1152, 1]⟩
abbrev S_ : Shape := ⟨0, ![]⟩
abbrev S2x1024x1 : Shape := ⟨3, ![2, 1024, 1]⟩
abbrev S1x1x1152 : Shape := ⟨3, ![1, 1, 1152]⟩
abbrev S2x1024x64 : Shape := ⟨3, ![2, 1024, 64]⟩
abbrev S1x1152 : Shape := ⟨2, ![1, 1152]⟩

abbrev nBuf : Space → Nat
  | .hbm => 52
  | .vmem => 4
  | .smem => 0
  | _ => 0

abbrev bufTy : (tb : Table) → Fin (tcTables nBuf tb) → BufTy
  | .hbm, ⟨0, _⟩ => ⟨S2x1024x3584, .bf16⟩
  | .hbm, ⟨1, _⟩ => ⟨S1152x3584, .fp8e4m3⟩
  | .hbm, ⟨2, _⟩ => ⟨S1152, .f32⟩
  | .hbm, ⟨3, _⟩ => ⟨S64x3584, .bf16⟩
  | .hbm, ⟨4, _⟩ => ⟨S1152x64, .bf16⟩
  | .hbm, ⟨5, _⟩ => ⟨S1152, .f32⟩
  | .hbm, ⟨6, _⟩ => ⟨S2x1024x1152, .fp8e5m2⟩
  | .hbm, ⟨7, _⟩ => ⟨S2x1024, .f32⟩
  | .hbm, ⟨8, _⟩ => ⟨S1152x3584, .f32⟩
  | .hbm, ⟨9, _⟩ => ⟨S2x1024x1152, .f32⟩
  | .hbm, ⟨10, _⟩ => ⟨S1152x3584, .f32⟩
  | .hbm, ⟨11, _⟩ => ⟨S1152x1, .f32⟩
  | .hbm, ⟨12, _⟩ => ⟨S1152x3584, .f32⟩
  | .hbm, ⟨13, _⟩ => ⟨S1152x3584, .f32⟩
  | .hbm, ⟨14, _⟩ => ⟨S1152x3584, .f32⟩
  | .hbm, ⟨15, _⟩ => ⟨S1152x3584, .f32⟩
  | .hbm, ⟨16, _⟩ => ⟨S_, .f32⟩
  | .hbm, ⟨17, _⟩ => ⟨S1152, .f32⟩
  | .hbm, ⟨18, _⟩ => ⟨S1152, .f32⟩
  | .hbm, ⟨19, _⟩ => ⟨S_, .f32⟩
  | .hbm, ⟨20, _⟩ => ⟨S1152, .f32⟩
  | .hbm, ⟨21, _⟩ => ⟨S1152, .i1⟩
  | .hbm, ⟨22, _⟩ => ⟨S_, .f32⟩
  | .hbm, ⟨23, _⟩ => ⟨S_, .f32⟩
  | .hbm, ⟨24, _⟩ => ⟨S1152, .f32⟩
  | .hbm, ⟨25, _⟩ => ⟨S1152, .f32⟩
  | .hbm, ⟨26, _⟩ => ⟨S1152, .f32⟩
  | .hbm, ⟨27, _⟩ => ⟨S1152x3584, .bf16⟩
  | .hbm, ⟨28, _⟩ => ⟨S2x1024x1152, .f32⟩
  | .hbm, ⟨29, _⟩ => ⟨S2x1024x1, .f32⟩
  | .hbm, ⟨30, _⟩ => ⟨S2x1024x1152, .f32⟩
  | .hbm, ⟨31, _⟩ => ⟨S2x1024x1152, .f32⟩
  | .hbm, ⟨32, _⟩ => ⟨S2x1024x1152, .f32⟩
  | .hbm, ⟨33, _⟩ => ⟨S_, .f32⟩
  | .hbm, ⟨34, _⟩ => ⟨S1152, .f32⟩
  | .hbm, ⟨35, _⟩ => ⟨S1152, .f32⟩
  | .hbm, ⟨36, _⟩ => ⟨S1x1x1152, .f32⟩
  | .hbm, ⟨37, _⟩ => ⟨S2x1024x1152, .f32⟩
  | .hbm, ⟨38, _⟩ => ⟨S2x1024x1152, .f32⟩
  | .hbm, ⟨39, _⟩ => ⟨S2x1024x1152, .bf16⟩
  | .hbm, ⟨40, _⟩ => ⟨S2x1024x3584, .f32⟩
  | .hbm, ⟨41, _⟩ => ⟨S2x1024x3584, .bf16⟩
  | .hbm, ⟨42, _⟩ => ⟨S2x1024x64, .f32⟩
  | .hbm, ⟨43, _⟩ => ⟨S2x1024x64, .bf16⟩
  | .hbm, ⟨44, _⟩ => ⟨S2x1024x64, .f32⟩
  | .hbm, ⟨45, _⟩ => ⟨S2x1024x64, .bf16⟩
  | .hbm, ⟨46, _⟩ => ⟨S64x3584, .f32⟩
  | .hbm, ⟨47, _⟩ => ⟨S64x3584, .bf16⟩
  | .hbm, ⟨48, _⟩ => ⟨S1152x64, .f32⟩
  | .hbm, ⟨49, _⟩ => ⟨S1152x64, .bf16⟩
  | .hbm, ⟨50, _⟩ => ⟨S1x1152, .f32⟩
  | .hbm, ⟨51, _⟩ => ⟨S2x1024x1152, .bf16⟩
  | .local _ .vmem, ⟨0, _⟩ => ⟨S1152x3584, .fp8e4m3⟩
  | .local _ .vmem, ⟨1, _⟩ => ⟨S2x1024x1152, .fp8e5m2⟩
  | .local _ .vmem, ⟨2, _⟩ => ⟨S1152x3584, .f32⟩
  | .local _ .vmem, ⟨3, _⟩ => ⟨S2x1024x1152, .f32⟩
  | _, _ => ⟨S2x1024x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1152x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x1152 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1152x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x1152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Spec.lean ====
/-
  The mathematics of the backward pass of a weight-decomposed low-rank adapted layer, over the extended reals, as plain
  sums over plain index ranges. Both the kernel and the reference are shown to compute these functions of their eight
  arguments; nothing here mentions a program, a tile or a grid point.
-/
module

public import Idealize.ShloMosaic.Lib.Pointwise
public import Idealize.ShloMosaic.PureOps.Ideal.Laws

@[expose] public section

noncomputable section

open Idealize.ShloMosaic

namespace Cert.Dora

/-- The eight arguments, each read at its coordinates: `x[b, s, i]` activations, `w[o, i]` weight codes, `ws[o]` their
    row scales, `a[r, i]` and `b[o, r]` the two low-rank factors, `m[o]` the magnitudes, `dy[b, s, o]` codes of the
    incoming gradient, `ds[b, s]` their row scales. -/
structure In where
  x : Fin 2 → Fin 1024 → Fin 3584 → EReal
  w : Fin 1152 → Fin 3584 → EReal
  ws : Fin 1152 → EReal
  a : Fin 64 → Fin 3584 → EReal
  b : Fin 1152 → Fin 64 → EReal
  m : Fin 1152 → EReal
  dy : Fin 2 → Fin 1024 → Fin 1152 → EReal
  ds : Fin 2 → Fin 1024 → EReal

variable (I : In)

/-- The combined weight: the scaled codes plus the low-rank product. -/
def v (o : Fin 1152) (i : Fin 3584) : EReal := I.w o i * I.ws o + ∑ r : Fin 64, I.b o r * I.a r i

/-- The norm of a row of the combined weight. -/
def n (o : Fin 1152) : EReal := Ideal.sqrt (∑ i : Fin 3584, v I o i * v I o i)

/-- A norm with a zero replaced by one (the 32-bit float's one). -/
def safe (N : EReal) : EReal := if N = 0 then Ideal.ofBits .f32 0x3F800000#32 else N

/-- The divisor: the norm of the row, one where it is zero. -/
def nsafe (o : Fin 1152) : EReal := safe (n I o)

/-- The factor of the normalised weight's row: magnitude over norm. -/
def c (o : Fin 1152) : EReal := Ideal.div (I.m o) (nsafe I o)

/-- The product with the combined weight before the magnitude is applied. -/
def z (b : Fin 2) (s : Fin 1024) (o : Fin 1152) : EReal := ∑ i : Fin 3584, I.x b s i * v I o i

/-- The incoming gradient: its codes scaled by row. -/
def dyf (b : Fin 2) (s : Fin 1024) (o : Fin 1152) : EReal := I.dy b s o * I.ds b s

/-- The gradient with respect to `z`. -/
def g (b : Fin 2) (s : Fin 1024) (o : Fin 1152) : EReal := dyf I b s o * c I o

/-- The gradient with respect to the activations. -/
def dx (b : Fin 2) (s : Fin 1024) (i : Fin 3584) : EReal := ∑ o : Fin 1152, g I b s o * v I o i

/-- The activations projected by the first low-rank factor. -/
def xa (b : Fin 2) (s : Fin 1024) (r : Fin 64) : EReal := ∑ i : Fin 3584, I.x b s i * I.a r i

/-- The gradient projected by the second low-rank factor. -/
def gb (b : Fin 2) (s : Fin 1024) (r : Fin 64) : EReal := ∑ o : Fin 1152, g I b s o * I.b o r

/-- The gradient with respect to the first low-rank factor. -/
def da (r : Fin 64) (i : Fin 3584) : EReal := ∑ b : Fin 2, ∑ s : Fin 1024, gb I b s r * I.x b s i

/-- The gradient with respect to the second low-rank factor. -/
def db (o : Fin 1152) (r : Fin 64) : EReal := ∑ b : Fin 2, ∑ s : Fin 1024, g I b s o * xa I b s r

/-- The gradient with respect to the magnitudes. -/
def dm (o : Fin 1152) : EReal := Ideal.div (∑ b : Fin 2, ∑ s : Fin 1024, dyf I b s o * z I b s o) (nsafe I o)

/-- The eight argument arrays read at coordinates. -/
abbrev ofArrays (x0 : Vec Ideal ⟨3, ![2, 1024, 3584]⟩ .bf16) (x1 : Vec Ideal ⟨2, ![1152, 3584]⟩ .fp8e4m3)
    (x2 : Vec Ideal ⟨1, ![1152]⟩ .f32) (x3 : Vec Ideal ⟨2, ![64, 3584]⟩ .bf16) (x4 : Vec Ideal ⟨2, ![1152, 64]⟩ .bf16)
    (x5 : Vec Ideal ⟨1, ![1152]⟩ .f32) (x6 : Vec Ideal ⟨3, ![2, 1024, 1152]⟩ .fp8e5m2) (x7 : Vec Ideal ⟨2, ![2, 1024]⟩ .f32) : In where
  x b s i := x0 (ix3 b s i)
  w o i := x1 (ix2 o i)
  ws o := x2 (ix1 o)
  a r i := x3 (ix2 r i)
  b o r := x4 (ix2 o r)
  m o := x5 (ix1 o)
  dy b s o := x6 (ix3 b s o)
  ds b s := x7 (ix2 b s)

end Cert.Dora

end
-- ==== Proof.Tiles.lean ====
/-
  The kernel's tile computations, each written once for every tile, and stacks of tile stores: the contents a list of stores
  leaves when every store holds its tile of one array.
-/
module

public import proofs.«01_k».proof.Proof.Gen.KernelIdeal.Skeleton
public import proofs.«01_k».proof.Proof.Spec
public import Idealize.ShloMosaic.Lib.Pointwise
public import Idealize.ShloMosaic.Lib.IdealHost
public import Idealize.ShloMosaic.Lib.Pipeline.FrameBody
public import Idealize.ShloMosaic.Lib.Pipeline.Value
public import Idealize.ShloMosaic.Lib.Pipeline.ValueKit.Tiles

@[expose] public section

set_option maxRecDepth 16384

noncomputable section

open Idealize.ShloMosaic Idealize.ShloMosaic.TcCoe Cert.KernelIdeal.Gen

namespace Cert.KernelIdeal.Tiles

/-! ## Stacks of tile stores -/

section Stack

variable {S : Shape} {e : EltTy}

/-- The stores `f 0, …, f (n-1)`, the last one first. -/
def tiles (f : ℕ → View.Piece (Elt Ideal) S e) : ℕ → List (View.Piece (Elt Ideal) S e)
  | 0 => []
  | k + 1 => f k :: tiles f k

/-- A store of the stack is one of the `f k`. -/
theorem mem_tiles {f : ℕ → View.Piece (Elt Ideal) S e} {p : View.Piece (Elt Ideal) S e} :
    ∀ {n : ℕ}, p ∈ tiles f n ↔ ∃ k < n, p = f k
  | 0 => by simp [tiles]
  | n + 1 => by
    rw [tiles, List.mem_cons, mem_tiles]
    constructor
    · rintro (rfl | ⟨k, hk, rfl⟩)
      · exact ⟨n, Nat.lt_succ_self n, rfl⟩
      · exact ⟨k, Nat.lt_succ_of_lt hk, rfl⟩
    · rintro ⟨k, hk, rfl⟩
      rcases Nat.lt_succ_iff_lt_or_eq.mp hk with h | rfl
      · exact Or.inr ⟨k, h, rfl⟩
      · exact Or.inl rfl

/-- Where every store of a stack holds its tile of the array `G`, the stack leaves `G` at every index some store covers. -/
theorem canon_tiles_apply (G : S.Idx → Elt Ideal e) (f : ℕ → View.Piece (Elt Ideal) S e) (n : ℕ)
    (hG : ∀ k < n, ∀ x : (f k).1.shape.Idx, (f k).2 x = G ((f k).1.emb x)) (y : S.Idx)
    (hy : ∃ k < n, y ∈ (f k).1.set) : View.canon (tiles f n) y = G y := by
  refine View.canon_apply_of_pieces G _ (fun p hp x => ?_) y ?_
  · obtain ⟨k, hk, rfl⟩ := mem_tiles.mp hp; exact hG k hk x
  · obtain ⟨k, hk, h⟩ := hy; exact ⟨f k, mem_tiles.mpr ⟨k, hk, rfl⟩, h⟩

end Stack

/-! ## Where the tiles lie -/

/-- The `k mod n`-th of `n`. -/
def md (n : ℕ) [NeZero n] (k : ℕ) : Fin n := ⟨k % n, Nat.mod_lt _ (NeZero.pos n)⟩

theorem inb_v (o : Fin 9) (i : Fin 28) : ∀ a, (![128 * o.val, 128 * i.val] : Fin 2 → Nat) a + S128x128.size a ≤ S1152x3584.size a := by
  rw [Fin.forall_fin_two]; exact ⟨by show 128 * o.val + 128 ≤ 1152; omega, by show 128 * i.val + 128 ≤ 3584; omega⟩

theorem inb_row (o : Fin 9) : ∀ a, (![0, 128 * o.val] : Fin 2 → Nat) a + S1x128.size a ≤ S1x1152.size a := by
  rw [Fin.forall_fin_two]; exact ⟨Nat.le_refl _, by show 128 * o.val + 128 ≤ 1152; omega⟩

theorem inb_b (o : Fin 9) : ∀ a, (![128 * o.val, 0] : Fin 2 → Nat) a + S128x64.size a ≤ S1152x64.size a := by
  rw [Fin.forall_fin_two]; exact ⟨by show 128 * o.val + 128 ≤ 1152; omega, Nat.le_refl _⟩

theorem inb_ds (b : Fin 2) (t : Fin 8) : ∀ a, (![b.val, 128 * t.val] : Fin 2 → Nat) a + S1x128.size a ≤ S2x1024.size a := by
  rw [Fin.forall_fin_two]; exact ⟨by show b.val + 1 ≤ 2; omega, by show 128 * t.val + 128 ≤ 1024; omega⟩

theorem inb_dsc (k : Fin 16) : ∀ a, (![128 * k.val, 0] : Fin 2 → Nat) a + S128x128.size a ≤ S2048x128.size a := by
  rw [Fin.forall_fin_two]; exact ⟨by show 128 * k.val + 128 ≤ 2048; omega, Nat.le_refl _⟩

theorem inb_g (t : Fin 4) (o : Fin 9) : ∀ a, (![128 * t.val, 128 * o.val] : Fin 2 → Nat) a + S128x128.size a ≤ S512x1152.size a := by
  rw [Fin.forall_fin_two]; exact ⟨by show 128 * t.val + 128 ≤ 512; omega, by show 128 * o.val + 128 ≤ 1152; omega⟩

theorem inb_dy (t : Fin 4) (o : Fin 9) : ∀ a, (![0, 128 * t.val, 128 * o.val] : Fin 3 → Nat) a + S1x128x128.size a ≤ S1x512x1152.size a := by
  intro a; fin_cases a
  · exact Nat.le_refl 1
  · show 128 * t.val + 128 ≤ 512; omega
  · show 128 * o.val + 128 ≤ 1152; omega

theorem inb_dm (o : Fin 9) : ∀ a, (![0, 128 * o.val] : Fin 2 → Nat) a + S8x128.size a ≤ S8x1152.size a := by
  rw [Fin.forall_fin_two]; exact ⟨Nat.le_refl _, by show 128 * o.val + 128 ≤ 1152; omega⟩

theorem slices_z (t : Fin 4) (o : Fin 9) : S512x1152.Slices ![128 * t.val, 128 * o.val] S128x128 :=
  (by decide : ∀ (t : Fin 4) (o : Fin 9), S512x1152.Slices ![128 * t.val, 128 * o.val] S128x128) t o

theorem slices_ba (i : Fin 28) : S128x3584.Slices ![0, 128 * i.val] S128x128 :=
  (by decide : ∀ i : Fin 28, S128x3584.Slices ![0, 128 * i.val] S128x128) i

/-- Tile `(o, i)` of the combined weight. -/
abbrev rectV (o : Fin 9) (i : Fin 28) : Rect S1152x3584 := Rect.unit (s := S1152x3584) ![128 * o.val, 128 * i.val] S128x128.size (inb_v o i)
/-- Block `o` of a row of 1152. -/
abbrev rectRow (o : Fin 9) : Rect S1x1152 := Rect.unit (s := S1x1152) ![0, 128 * o.val] S1x128.size (inb_row o)
/-- Rows `o` of the low-rank factor. -/
abbrev rectB (o : Fin 9) : Rect S1152x64 := Rect.unit (s := S1152x64) ![128 * o.val, 0] S128x64.size (inb_b o)
/-- Block `t` of batch `b` of the row scales. -/
abbrev rectDs (b : Fin 2) (t : Fin 8) : Rect S2x1024 := Rect.unit (s := S2x1024) ![b.val, 128 * t.val] S1x128.size (inb_ds b t)
/-- Block `k` of the row scales turned to columns. -/
abbrev rectDsc (k : Fin 16) : Rect S2048x128 := Rect.unit (s := S2048x128) ![128 * k.val, 0] S128x128.size (inb_dsc k)
/-- Block `t` of a point's row scales, at the point's offset. -/
abbrev rectScale (i : grid0.Coords) (t : Fin 4) : Rect S2048x128 :=
  Rect.unit (s := S2048x128) (k0_off1 i (BitVec.ofNat 32 (128 * t.val))) S128x128.size (k0_off1_inb i t)
/-- Tile `(t, o)` of a point's gradient. -/
abbrev rectG (t : Fin 4) (o : Fin 9) : Rect S512x1152 := Rect.unit (s := S512x1152) ![128 * t.val, 128 * o.val] S128x128.size (inb_g t o)
/-- Tile `(t, o)` of a point's gradient codes. -/
abbrev rectDy (t : Fin 4) (o : Fin 9) : Rect S1x512x1152 := Rect.unit (s := S1x512x1152) ![0, 128 * t.val, 128 * o.val] S1x128x128.size (inb_dy t o)
/-- Block `o` of the eight partial sums. -/
abbrev rectDm (o : Fin 9) : Rect S8x1152 := Rect.unit (s := S8x1152) ![0, 128 * o.val] S8x128.size (inb_dm o)

/-! ## What one tile computes -/

/-- A tile of the incoming gradient: its codes times the row scales. -/
def dyTile (s : Vec Ideal S128x128 .f32) (d : Vec Ideal S1x128x128 .fp8e5m2) : FVec Ideal S128x128 .f32 :=
  mulf (extf .f32 (shapeCast S128x128 d shapeCasts_S1x128x128_S128x128) bitsLt_fp8e5m2_f32) s

/-- A tile of the gradient with respect to the normalised product. -/
def gTile (s : Vec Ideal S128x128 .f32) (d : Vec Ideal S1x128x128 .fp8e5m2) (c : Vec Ideal S1x128 .f32) : FVec Ideal S128x128 .bf16 :=
  shapeCast S128x128 (truncf .bf16 (mulf (dyTile s d) (broadcastTo S128x128 c broadcasts_S1x128_S128x128)) bitsLt_bf16_f32) shapeCasts_S128x128_S128x128

/-- The eight partial sums of a block after one more tile of products. -/
def dmTile (t : Fin 4) (o : Fin 9) (z : FVec Ideal S512x1152 .f32) (s : Vec Ideal S128x128 .f32) (d : Vec Ideal S1x128x128 .fp8e5m2)
    (old : Vec Ideal S8x128 .f32) : FVec Ideal S8x128 .f32 :=
  shapeCast S8x128 (addf old (multiReduction .add [0] S8x128 (shapeCast S16x8x128
    (mulf (dyTile s d) (extractStridedSlice S128x128 ![128 * t.val, 128 * o.val] z (slices_z t o))) shapeCasts_S128x128_S16x8x128)
    0x00000000#32 reduces_S16x8x128_S8x128 (.inl rfl) rfl)) shapeCasts_S8x128_S8x128

/-- A tile of the combined weight: its codes times the row scales, plus its part of the low-rank product. -/
def vTile (sc : FVec Ideal S128x128 .f32) (ba : FVec Ideal S128x3584 .f32) (i : Fin 28) (w : Vec Ideal S128x128 .fp8e4m3) : FVec Ideal S128x128 .f32 :=
  addf (mulf (extf .f32 w bitsLt_fp8e4m3_f32) sc) (extractStridedSlice S128x128 ![0, 128 * i.val] ba (slices_ba i))

/-- That tile as stored. -/
def vStore (sc : FVec Ideal S128x128 .f32) (ba : FVec Ideal S128x3584 .f32) (i : Fin 28) (w : Vec Ideal S128x128 .fp8e4m3) : FVec Ideal S128x128 .bf16 :=
  shapeCast S128x128 (truncf .bf16 (vTile sc ba i w) bitsLt_bf16_f32) shapeCasts_S128x128_S128x128

/-- The squares of the first `k` tiles of a block of rows, summed tile by tile. -/
def sqAcc (sc : FVec Ideal S128x128 .f32) (ba : FVec Ideal S128x3584 .f32) (w : Fin 28 → Vec Ideal S128x128 .fp8e4m3) : ℕ → FVec Ideal S128x128 .f32
  | 0 => broadcast S128x128 (Scalar.ofBits .f32 0x00000000#32)
  | k + 1 => addf (sqAcc sc ba w k) (mulf (vTile sc ba (md 28 k) (w (md 28 k))) (vTile sc ba (md 28 k) (w (md 28 k))))

/-- The norms of a block of rows. -/
def nrm (q : FVec Ideal S128x128 .f32) : FVec Ideal S1x128 .f32 :=
  sqrt (shapeCast S1x128 (multiReduction .add [0] S128 (transpose S128x128 [1, 0] q transposes_S128x128_p1_0_S128x128) 0x00000000#32
    reduces_S128x128_S128 (.inl rfl) rfl) shapeCasts_S128_S1x128)

/-- The norms with a zero replaced by one. -/
def nrmSafe (q : FVec Ideal S128x128 .f32) : FVec Ideal S1x128 .f32 :=
  select (cmpf .oeq (nrm q) (broadcast S1x128 (Scalar.ofBits .f32 0x00000000#32))) (broadcast S1x128 (Scalar.ofBits .f32 0x3F800000#32)) (nrm q)

/-- The norms as stored. -/
def nStore (q : FVec Ideal S128x128 .f32) : FVec Ideal S1x128 .f32 := shapeCast S1x128 (nrmSafe q) shapeCasts_S1x128_S1x128

/-- Magnitude over norm, as stored. -/
def cStore (q : FVec Ideal S128x128 .f32) (mg : Vec Ideal S1x128 .f32) : FVec Ideal S1x128 .f32 :=
  shapeCast S1x128 (divf (shapeCast S1x128 mg shapeCasts_S1x128_S1x128) (nrmSafe q)) shapeCasts_S1x128_S1x128

/-- A block of row scales turned to a column and repeated along the lanes. -/
def dscStore (d : Vec Ideal S1x128 .f32) : FVec Ideal S128x128 .f32 := k0_pay665 d

/-! ## The tile computations, read at an index -/

theorem dyTile_at (s : Vec Ideal S128x128 .f32) (d : Vec Ideal S1x128x128 .fp8e5m2) (p q : Fin 128) :
    dyTile s d (ix2 p q) = d (ix3 (0 : Fin 1) p q) * s (ix2 p q) := by
  pointwise [dyTile]

theorem gTile_at (s : Vec Ideal S128x128 .f32) (d : Vec Ideal S1x128x128 .fp8e5m2) (c : Vec Ideal S1x128 .f32) (p q : Fin 128) :
    gTile s d c (ix2 p q) = d (ix3 (0 : Fin 1) p q) * s (ix2 p q) * c (ix2 (0 : Fin 1) q) := by
  pointwise [gTile, dyTile]

theorem dmTile_at (t : Fin 4) (o : Fin 9) (z : FVec Ideal S512x1152 .f32) (s : Vec Ideal S128x128 .f32)
    (d : Vec Ideal S1x128x128 .fp8e5m2) (old : Vec Ideal S8x128 .f32) (q : Fin 8) (l : Fin 128) :
    dmTile t o z s d old (ix2 q l) = old (ix2 q l) + ∑ u : Fin 16,
      d (ix3 (0 : Fin 1) (⟨u.val * 8 + q.val, by omega⟩ : Fin 128) l) * s (ix2 (⟨u.val * 8 + q.val, by omega⟩ : Fin 128) l)
        * z (ix2 (⟨128 * t.val + (u.val * 8 + q.val), by omega⟩ : Fin 512) (⟨128 * o.val + l.val, by omega⟩ : Fin 1152)) := by
  pointwise [dmTile, dyTile]

theorem vTile_at (sc : FVec Ideal S128x128 .f32) (ba : FVec Ideal S128x3584 .f32) (i : Fin 28) (w : Vec Ideal S128x128 .fp8e4m3)
    (p q : Fin 128) : vTile sc ba i w (ix2 p q)
      = w (ix2 p q) * sc (ix2 p q) + ba (ix2 p (⟨128 * i.val + q.val, by omega⟩ : Fin 3584)) := by
  pointwise [vTile]

theorem vStore_at (sc : FVec Ideal S128x128 .f32) (ba : FVec Ideal S128x3584 .f32) (i : Fin 28) (w : Vec Ideal S128x128 .fp8e4m3)
    (p q : Fin 128) : vStore sc ba i w (ix2 p q)
      = w (ix2 p q) * sc (ix2 p q) + ba (ix2 p (⟨128 * i.val + q.val, by omega⟩ : Fin 3584)) := by
  pointwise [vStore, vTile]

/-- The 32-bit float's one is the number one. -/
theorem one_f32 : Ideal.ofBits .f32 0x3F800000#32 = 1 := Ideal.ofBits_one_f32

theorem nStore_at (k : FVec Ideal S128x128 .f32) (u : Fin 1) (l : Fin 128) :
    nStore k (ix2 u l) = Dora.safe (Ideal.sqrt (∑ x : Fin 128, k (ix2 l x))) := by
  rw [Dora.safe, one_f32]; pointwise [nStore, nrmSafe, nrm]

theorem cStore_at (k : FVec Ideal S128x128 .f32) (mg : Vec Ideal S1x128 .f32) (u : Fin 1) (l : Fin 128) :
    cStore k mg (ix2 u l) = Ideal.div (mg (ix2 u l)) (Dora.safe (Ideal.sqrt (∑ x : Fin 128, k (ix2 l x)))) := by
  rw [Dora.safe, one_f32]; pointwise [cStore, nrmSafe, nrm]

theorem dscStore_at (d : Vec Ideal S1x128 .f32) (p q : Fin 128) : dscStore d (ix2 p q) = d (ix2 (0 : Fin 1) p) := by
  pointwise [dscStore, k0_pay665]

/-- The squares of a block's rows, summed: after `k` tiles, lane `q` of row `p` holds the sum over the tiles. -/
theorem sqAcc_at (sc : FVec Ideal S128x128 .f32) (ba : FVec Ideal S128x3584 .f32) (w : Fin 28 → Vec Ideal S128x128 .fp8e4m3)
    (p q : Fin 128) : ∀ k : ℕ, sqAcc sc ba w k (ix2 p q)
      = ∑ i ∈ Finset.range k, vTile sc ba (md 28 i) (w (md 28 i)) (ix2 p q) * vTile sc ba (md 28 i) (w (md 28 i)) (ix2 p q)
  | 0 => by rw [Finset.sum_range_zero]; pointwise [sqAcc]
  | k + 1 => by
    rw [Finset.sum_range_succ, ← sqAcc_at sc ba w p q k]; rfl

end Cert.KernelIdeal.Tiles

end
-- ==== Proof.Stacks.lean ====
/-
  The arrays the kernel's stacks of tile stores leave: the combined weight, its rows' norms and factors, the row scales turned
  to columns, the gradient, and the eight partial sums of the magnitudes' gradient.
-/
module

public import proofs.«01_k».proof.Proof.Tiles

@[expose] public section

set_option maxRecDepth 16384

noncomputable section

open Idealize.ShloMosaic Idealize.ShloMosaic.TcCoe Cert.KernelIdeal.Gen

namespace Cert.KernelIdeal.Tiles

/-! ## The gradient tiles -/

/-- The `k`-th store of the gradient: tile `(k / 9, k mod 9)`. -/
def gPiece (S : Fin 4 → Vec Ideal S128x128 .f32) (D : Fin 4 → Fin 9 → Vec Ideal S1x128x128 .fp8e5m2) (C : Fin 9 → Vec Ideal S1x128 .f32)
    (k : ℕ) : View.Piece (Elt Ideal) S512x1152 .bf16 :=
  ⟨rectG (md 4 (k / 9)) (md 9 k), gTile (S (md 4 (k / 9))) (D (md 4 (k / 9)) (md 9 k)) (C (md 9 k))⟩

/-- The gradient's 36 stores leave one array: at row `s` and column `o`, code times row scale times factor. -/
theorem canon_g (S : Fin 4 → Vec Ideal S128x128 .f32) (D : Fin 4 → Fin 9 → Vec Ideal S1x128x128 .fp8e5m2) (C : Fin 9 → Vec Ideal S1x128 .f32)
    (G : Fin 512 → Fin 1152 → EReal)
    (h : ∀ (t : Fin 4) (o : Fin 9) (p q : Fin 128), D t o (ix3 (0 : Fin 1) p q) * S t (ix2 p q) * C o (ix2 (0 : Fin 1) q)
      = G ⟨128 * t.val + p.val, by omega⟩ ⟨128 * o.val + q.val, by omega⟩) (y : S512x1152.Idx) :
    View.canon (tiles (gPiece S D C) 36) y = G (y 0) (y 1) := by
  have h0 : (y 0).val < 512 := (y 0).isLt
  have h1 : (y 1).val < 1152 := (y 1).isLt
  refine canon_tiles_apply (e := .bf16) (fun j => G (j 0) (j 1)) _ _ (fun k hk x => ?_) y
    ⟨9 * ((y 0).val / 128) + (y 1).val / 128, by omega, ?_⟩
  · obtain ⟨p, q, rfl⟩ : ∃ (p q : Fin 128), x = ix2 p q := ⟨x 0, x 1, ValueIdx.eq_ix2 x⟩
    refine (gTile_at _ _ _ p q).trans ((h _ _ p q).trans ?_)
    refine congrArg₂ G (Fin.ext ?_) (Fin.ext ?_)
    · show 128 * (md 4 (k / 9)).val + p.val = 128 * (md 4 (k / 9)).val + 1 * p.val; omega
    · show 128 * (md 9 k).val + q.val = 128 * (md 9 k).val + 1 * q.val; omega
  · refine (Rect.mem_set_unit (inb := inb_g _ _)).mpr (Fin.forall_fin_two.mpr ⟨?_, ?_⟩)
    · show 128 * ((9 * ((y 0).val / 128) + (y 1).val / 128) / 9 % 4) ≤ (y 0).val ∧ (y 0).val < 128 * ((9 * ((y 0).val / 128) + (y 1).val / 128) / 9 % 4) + 128
      omega
    · show 128 * ((9 * ((y 0).val / 128) + (y 1).val / 128) % 9) ≤ (y 1).val ∧ (y 1).val < 128 * ((9 * ((y 0).val / 128) + (y 1).val / 128) % 9) + 128
      omega

/-! ## The combined weight -/

/-- The `k`-th store of the combined weight: tile `(k / 28, k mod 28)`. -/
def vPiece (sc : Fin 9 → FVec Ideal S128x128 .f32) (ba : Fin 9 → FVec Ideal S128x3584 .f32) (w : Fin 9 → Fin 28 → Vec Ideal S128x128 .fp8e4m3)
    (k : ℕ) : View.Piece (Elt Ideal) S1152x3584 .bf16 :=
  ⟨rectV (md 9 (k / 28)) (md 28 k), vStore (sc (md 9 (k / 28))) (ba (md 9 (k / 28))) (md 28 k) (w (md 9 (k / 28)) (md 28 k))⟩

/-- The combined weight's 252 stores leave one array. -/
theorem canon_v (sc : Fin 9 → FVec Ideal S128x128 .f32) (ba : Fin 9 → FVec Ideal S128x3584 .f32) (w : Fin 9 → Fin 28 → Vec Ideal S128x128 .fp8e4m3)
    (G : Fin 1152 → Fin 3584 → EReal)
    (h : ∀ (o : Fin 9) (i : Fin 28) (p q : Fin 128), w o i (ix2 p q) * sc o (ix2 p q) + ba o (ix2 p (⟨128 * i.val + q.val, by omega⟩ : Fin 3584))
      = G ⟨128 * o.val + p.val, by omega⟩ ⟨128 * i.val + q.val, by omega⟩) (y : S1152x3584.Idx) :
    View.canon (tiles (vPiece sc ba w) 252) y = G (y 0) (y 1) := by
  have h0 : (y 0).val < 1152 := (y 0).isLt
  have h1 : (y 1).val < 3584 := (y 1).isLt
  refine canon_tiles_apply (e := .bf16) (fun j => G (j 0) (j 1)) _ _ (fun k hk x => ?_) y
    ⟨28 * ((y 0).val / 128) + (y 1).val / 128, by omega, ?_⟩
  · obtain ⟨p, q, rfl⟩ : ∃ (p q : Fin 128), x = ix2 p q := ⟨x 0, x 1, ValueIdx.eq_ix2 x⟩
    refine (vStore_at _ _ _ _ p q).trans ((h _ _ p q).trans ?_)
    refine congrArg₂ G (Fin.ext ?_) (Fin.ext ?_)
    · show 128 * (md 9 (k / 28)).val + p.val = 128 * (md 9 (k / 28)).val + 1 * p.val; omega
    · show 128 * (md 28 k).val + q.val = 128 * (md 28 k).val + 1 * q.val; omega
  · refine (Rect.mem_set_unit (inb := inb_v _ _)).mpr (Fin.forall_fin_two.mpr ⟨?_, ?_⟩)
    · show 128 * ((28 * ((y 0).val / 128) + (y 1).val / 128) / 28 % 9) ≤ (y 0).val ∧ (y 0).val < 128 * ((28 * ((y 0).val / 128) + (y 1).val / 128) / 28 % 9) + 128
      omega
    · show 128 * ((28 * ((y 0).val / 128) + (y 1).val / 128) % 28) ≤ (y 1).val ∧ (y 1).val < 128 * ((28 * ((y 0).val / 128) + (y 1).val / 128) % 28) + 128
      omega

/-! ## The rows' norms and factors -/

/-- A stack of nine stores of one row, block by block. -/
def rowPiece (f : Fin 9 → FVec Ideal S1x128 .f32) (k : ℕ) : View.Piece (Elt Ideal) S1x1152 .f32 := ⟨rectRow (md 9 k), f (md 9 k)⟩

/-- Nine blocks of a row leave one row. -/
theorem canon_row (f : Fin 9 → FVec Ideal S1x128 .f32) (G : Fin 1152 → EReal)
    (h : ∀ (o : Fin 9) (u : Fin 1) (q : Fin 128), f o (ix2 u q) = G ⟨128 * o.val + q.val, by omega⟩) (y : S1x1152.Idx) :
    View.canon (tiles (rowPiece f) 9) y = G (y 1) := by
  have h0 : (y 0).val < 1 := (y 0).isLt
  have h1 : (y 1).val < 1152 := (y 1).isLt
  refine canon_tiles_apply (e := .f32) (fun j => G (j 1)) _ _ (fun k hk x => ?_) y ⟨(y 1).val / 128, by omega, ?_⟩
  · obtain ⟨p, q, rfl⟩ : ∃ (p : Fin 1) (q : Fin 128), x = ix2 p q := ⟨x 0, x 1, ValueIdx.eq_ix2 x⟩
    refine (h _ p q).trans (congrArg G (Fin.ext ?_))
    show 128 * (md 9 k).val + q.val = 128 * (md 9 k).val + 1 * q.val; omega
  · refine (Rect.mem_set_unit (inb := inb_row _)).mpr (Fin.forall_fin_two.mpr ⟨?_, ?_⟩)
    · show 0 ≤ (y 0).val ∧ (y 0).val < 0 + 1
      omega
    · show 128 * ((y 1).val / 128 % 9) ≤ (y 1).val ∧ (y 1).val < 128 * ((y 1).val / 128 % 9) + 128
      omega

/-! ## The row scales turned to columns -/

/-- The `k`-th store of the row scales. -/
def dscPiece (f : Fin 16 → Vec Ideal S1x128 .f32) (k : ℕ) : View.Piece (Elt Ideal) S2048x128 .f32 := ⟨rectDsc (md 16 k), dscStore (f (md 16 k))⟩

/-- The sixteen stores of the row scales leave one array: row `r` holds scale `r` in every lane. -/
theorem canon_dsc (f : Fin 16 → Vec Ideal S1x128 .f32) (G : Fin 2048 → EReal)
    (h : ∀ (k : Fin 16) (p : Fin 128), f k (ix2 (0 : Fin 1) p) = G ⟨128 * k.val + p.val, by omega⟩) (y : S2048x128.Idx) :
    View.canon (tiles (dscPiece f) 16) y = G (y 0) := by
  have h0 : (y 0).val < 2048 := (y 0).isLt
  have h1 : (y 1).val < 128 := (y 1).isLt
  refine canon_tiles_apply (e := .f32) (fun j => G (j 0)) _ _ (fun k hk x => ?_) y ⟨(y 0).val / 128, by omega, ?_⟩
  · obtain ⟨p, q, rfl⟩ : ∃ (p q : Fin 128), x = ix2 p q := ⟨x 0, x 1, ValueIdx.eq_ix2 x⟩
    refine (dscStore_at _ p q).trans ((h _ p).trans (congrArg G (Fin.ext ?_)))
    show 128 * (md 16 k).val + p.val = 128 * (md 16 k).val + 1 * p.val; omega
  · refine (Rect.mem_set_unit (inb := inb_dsc _)).mpr (Fin.forall_fin_two.mpr ⟨?_, ?_⟩)
    · show 128 * ((y 0).val / 128 % 16) ≤ (y 0).val ∧ (y 0).val < 128 * ((y 0).val / 128 % 16) + 128
      omega
    · show 0 ≤ (y 1).val ∧ (y 1).val < 0 + 128
      omega

/-! ## The eight partial sums -/

/-- The stack of the partial sums' stores over `base`: store `k` adds tile `(k / 9, k mod 9)` to what `old` reads of the stack
    below it. -/
def dmStack (base : List (View.Piece (Elt Ideal) S8x1152 .f32)) (old : ℕ → List (View.Piece (Elt Ideal) S8x1152 .f32) → Vec Ideal S8x128 .f32)
    (z : FVec Ideal S512x1152 .f32) (S : Fin 4 → Vec Ideal S128x128 .f32) (D : Fin 4 → Fin 9 → Vec Ideal S1x128x128 .fp8e5m2) :
    ℕ → List (View.Piece (Elt Ideal) S8x1152 .f32)
  | 0 => base
  | k + 1 => ⟨rectDm (md 9 k), dmTile (md 4 (k / 9)) (md 9 k) z (S (md 4 (k / 9))) (D (md 4 (k / 9)) (md 9 k)) (old k (dmStack base old z S D k))⟩
      :: dmStack base old z S D k

section DmStack

variable (base : List (View.Piece (Elt Ideal) S8x1152 .f32)) (old : ℕ → List (View.Piece (Elt Ideal) S8x1152 .f32) → Vec Ideal S8x128 .f32)
    (z : FVec Ideal S512x1152 .f32) (S : Fin 4 → Vec Ideal S128x128 .f32) (D : Fin 4 → Fin 9 → Vec Ideal S1x128x128 .fp8e5m2)

/-- Index `(q, 128 o + l)` of the partial sums. -/
abbrev dmIdx (o : Fin 9) (q : Fin 8) (l : Fin 128) : S8x1152.Idx := ix2 q (⟨128 * o.val + l.val, by omega⟩ : Fin 1152)

theorem rectDm_emb (o : Fin 9) (q : Fin 8) (l : Fin 128) : (rectDm o).emb (ix2 q l) = dmIdx o q l := by
  funext a; refine Fin.ext ?_
  revert a; rw [Fin.forall_fin_two]
  exact ⟨by show 0 + 1 * q.val = q.val; omega, by show 128 * o.val + 1 * l.val = 128 * o.val + l.val; omega⟩

theorem dmIdx_not_mem (o o' : Fin 9) (h : o ≠ o') (q : Fin 8) (l : Fin 128) : dmIdx o q l ∉ (rectDm o').set := by
  intro hm
  have h1 := (Rect.mem_set_unit.mp hm) 1
  have h2 : 128 * o'.val ≤ 128 * o.val + l.val ∧ 128 * o.val + l.val < 128 * o'.val + 128 := h1
  exact h (Fin.ext (by omega))

/-- Store `k` of the stack. -/
def dmPiece (k : ℕ) : View.Piece (Elt Ideal) S8x1152 .f32 :=
  ⟨rectDm (md 9 k), dmTile (md 4 (k / 9)) (md 9 k) z (S (md 4 (k / 9))) (D (md 4 (k / 9)) (md 9 k)) (old k (dmStack base old z S D k))⟩

/-- A store leaves the other blocks as they were. -/
theorem dmStack_off (k : ℕ) (o : Fin 9) (h : o ≠ md 9 k) (q : Fin 8) (l : Fin 128) :
    View.canon (dmStack base old z S D (k + 1)) (dmIdx o q l) = View.canon (dmStack base old z S D k) (dmIdx o q l) :=
  View.canon_cons_of_not_mem (dmPiece base old z S D k) (dmStack base old z S D k) (dmIdx_not_mem o (md 9 k) h q l)

/-- A store's own block holds what it stored. -/
theorem dmStack_on (k : ℕ) (q : Fin 8) (l : Fin 128) :
    View.canon (dmStack base old z S D (k + 1)) (dmIdx (md 9 k) q l)
      = dmTile (md 4 (k / 9)) (md 9 k) z (S (md 4 (k / 9))) (D (md 4 (k / 9)) (md 9 k)) (old k (dmStack base old z S D k)) (ix2 q l) := by
  rw [← rectDm_emb]
  exact View.canon_cons_emb (rectDm (md 9 k)) (dmPiece base old z S D k).2 (dmStack base old z S D k) (ix2 q l)

/-- Stores below block `o` of the first round leave block `o` as the base has it. -/
theorem dmStack_untouched (o : Fin 9) (q : Fin 8) (l : Fin 128) : ∀ k : ℕ, k ≤ o.val →
    View.canon (dmStack base old z S D k) (dmIdx o q l) = View.canon base (dmIdx o q l)
  | 0, _ => rfl
  | k + 1, h => by
    refine (dmStack_off base old z S D k o (fun e => ?_) q l).trans (dmStack_untouched o q l k (by omega))
    have e' : o.val = k % 9 := congrArg Fin.val e
    omega

/-- What tile `(t, o)` adds at lane `l` of partial sum `q`. -/
def dmPart (o : Fin 9) (q : Fin 8) (l : Fin 128) (t : Fin 4) : EReal := ∑ u : Fin 16,
  D t o (ix3 (0 : Fin 1) (⟨u.val * 8 + q.val, by omega⟩ : Fin 128) l) * S t (ix2 (⟨u.val * 8 + q.val, by omega⟩ : Fin 128) l)
    * z (ix2 (⟨128 * t.val + (u.val * 8 + q.val), by omega⟩ : Fin 512) (⟨128 * o.val + l.val, by omega⟩ : Fin 1152))

/-- After `k` stores block `o`, once stored into, holds its initial value plus its tiles so far. -/
theorem dmStack_at (init : Fin 8 → Fin 1152 → EReal)
    (h0 : ∀ k, k < 9 → ∀ (q : Fin 8) (l : Fin 128), old k (dmStack base old z S D k) (ix2 q l) = init q ⟨128 * (md 9 k).val + l.val, by omega⟩)
    (h1 : ∀ k, 9 ≤ k → ∀ (q : Fin 8) (l : Fin 128), old k (dmStack base old z S D k) (ix2 q l) = View.canon (dmStack base old z S D k) (dmIdx (md 9 k) q l))
    (o : Fin 9) (q : Fin 8) (l : Fin 128) : ∀ k : ℕ, o.val < k →
    View.canon (dmStack base old z S D k) (dmIdx o q l)
      = init q ⟨128 * o.val + l.val, by omega⟩ + ∑ t ∈ Finset.range ((k + 8 - o.val) / 9), dmPart z S D o q l (md 4 t)
  | 0, h => absurd h (Nat.not_lt_zero _)
  | k + 1, h => by
    by_cases e : o = md 9 k
    · have e' : o.val = k % 9 := congrArg Fin.val e
      have hn : (k + 1 + 8 - o.val) / 9 = k / 9 + 1 := by omega
      have hm : (k + 8 - o.val) / 9 = k / 9 := by omega
      have hold : old k (dmStack base old z S D k) (ix2 q l)
          = init q ⟨128 * o.val + l.val, by omega⟩ + ∑ t ∈ Finset.range (k / 9), dmPart z S D o q l (md 4 t) := by
        by_cases hk : k < 9
        · have h9 : k / 9 = 0 := by omega
          rw [h0 k hk, h9, Finset.sum_range_zero, add_zero]
          exact congrArg (init q) (Fin.ext (by show 128 * (k % 9) + l.val = 128 * o.val + l.val; omega))
        · rw [h1 k (by omega), ← e, dmStack_at init h0 h1 o q l k (by omega), hm]
      rw [hn, Finset.sum_range_succ, ← add_assoc, ← hold]
      subst e
      exact (dmStack_on base old z S D k q l).trans (dmTile_at _ _ _ _ _ _ q l)
    · have hk : k ≠ o.val := fun hk => e (Fin.ext (by show o.val = k % 9; omega))
      have e' : o.val ≠ k % 9 := fun he => e (Fin.ext he)
      have hn : (k + 1 + 8 - o.val) / 9 = (k + 8 - o.val) / 9 := by omega
      rw [dmStack_off base old z S D k o e q l, dmStack_at init h0 h1 o q l k (by omega), hn]

/-- All 36 stores: block `o` holds its initial value plus its four tiles. -/
theorem dmStack_all (init : Fin 8 → Fin 1152 → EReal)
    (h0 : ∀ k, k < 9 → ∀ (q : Fin 8) (l : Fin 128), old k (dmStack base old z S D k) (ix2 q l) = init q ⟨128 * (md 9 k).val + l.val, by omega⟩)
    (h1 : ∀ k, 9 ≤ k → ∀ (q : Fin 8) (l : Fin 128), old k (dmStack base old z S D k) (ix2 q l) = View.canon (dmStack base old z S D k) (dmIdx (md 9 k) q l))
    (o : Fin 9) (q : Fin 8) (l : Fin 128) : View.canon (dmStack base old z S D 36) (dmIdx o q l)
      = init q ⟨128 * o.val + l.val, by omega⟩ + ∑ t : Fin 4, dmPart z S D o q l t := by
  rw [dmStack_at base old z S D init h0 h1 o q l 36 (by omega), show (36 + 8 - o.val) / 9 = 4 by omega, Finset.sum_range]
  refine congrArg _ (Finset.sum_congr rfl fun t _ => congrArg _ (Fin.ext ?_))
  show t.val % 4 = t.val; omega

end DmStack

end Cert.KernelIdeal.Tiles

end
-- ==== Proof.Reads.lean ====
/-
  What a grid point's loads read: a buffer that holds a known array is read block by block, and the arrays a point builds
  are named by what they are built from.
-/
module

public import proofs.«01_k».proof.Proof.Stacks
public import Idealize.ShloMosaic.Lib.WholeRead

@[expose] public section

set_option maxRecDepth 16384

noncomputable section

open Idealize.ShloMosaic Idealize.ShloMosaic.TcCoe Cert.KernelIdeal.Gen

namespace Cert.KernelIdeal.Tiles

/-- A buffer's contents read, through every box, the entries of `X` there. -/
def Holds {s : Shape} {e : EltTy} (a : Memref sig .tc .vmem s e) (f : a.view.ty.Contents (Elt Ideal)) (X : Vec Ideal s e) : Prop :=
  ∀ B : LoadRect s, View.readAt (Elt Ideal) a.view B f = fun j => X (B.idx j)

theorem holds_unread {s : Shape} {e : EltTy} (a : Memref sig .tc .vmem s e) (h : a.IsWhole) (X : Vec Ideal s e) : Holds a (h.unread X) X :=
  fun B => funext fun j => Memref.IsWhole.readAt_unread h X B j

theorem holds_writes {s : Shape} {e : EltTy} (a : Memref sig .tc .vmem s e) (L : List (View.Piece (Elt Ideal) s e)) :
    Holds a (a.view.writes (Elt Ideal) a.view.junk L) (View.canon L) :=
  fun B => View.readAt_writes_junk_eq_canon a.view L B

/-- A load of a whole buffer reads the array it holds. -/
theorem Holds.whole {s : Shape} {e : EltTy} {a : Memref sig .tc .vmem s e} {f : a.view.ty.Contents (Elt Ideal)} {X : Vec Ideal s e}
    (h : Holds a f X) {off : Fin s.rank → Nat} (h0 : off = fun _ => 0) (inb : ∀ k, off k + s.size k ≤ s.size k) :
    View.readAt (Elt Ideal) a.view (Rect.unit off s.size inb).toLoadRect f = X :=
  (h _).trans (View.ld_unit_zero (S := s) h0 inb X)

theorem zeros2 : (![0, 0] : Fin 2 → Nat) = fun _ => 0 := by decide
theorem zeros3 : (![0, 0, 0] : Fin 3 → Nat) = fun _ => 0 := by decide

variable (i : grid0.Coords)

/-! ## Loads of blocks -/

/-- Block `t` of a point's row scales, loaded. -/
def scaleR (a : Memref sig .tc .vmem S2048x128 .f32) (f : a.view.ty.Contents (Elt Ideal)) (t : Fin 4) : Vec Ideal S128x128 .f32 :=
  View.readAt (Elt Ideal) a.view (rectScale i t).toLoadRect f

/-- Tile `(t, o)` of a point's gradient codes, loaded. -/
def dyR (a : Memref sig .tc .vmem S1x512x1152 .fp8e5m2) (f : a.view.ty.Contents (Elt Ideal)) (t : Fin 4) (o : Fin 9) : Vec Ideal S1x128x128 .fp8e5m2 :=
  View.readAt (Elt Ideal) a.view (rectDy t o).toLoadRect f

/-- Block `o` of a row of 1152, loaded. -/
def rowR (a : Memref sig .tc .vmem S1x1152 .f32) (f : a.view.ty.Contents (Elt Ideal)) (o : Fin 9) : Vec Ideal S1x128 .f32 :=
  View.readAt (Elt Ideal) a.view (rectRow o).toLoadRect f

/-- Block `t` of a point's row scales. -/
def scaleV (X : Vec Ideal S2048x128 .f32) (t : Fin 4) : Vec Ideal S128x128 .f32 := fun j => X ((rectScale i t).toLoadRect.idx j)

/-- Tile `(t, o)` of a point's gradient codes. -/
def dyV (X : Vec Ideal S1x512x1152 .fp8e5m2) (t : Fin 4) (o : Fin 9) : Vec Ideal S1x128x128 .fp8e5m2 := fun j => X ((rectDy t o).toLoadRect.idx j)

/-- Block `o` of a row of 1152. -/
def rowV (X : Vec Ideal S1x1152 .f32) (o : Fin 9) : Vec Ideal S1x128 .f32 := fun j => X ((rectRow o).toLoadRect.idx j)

theorem scaleR_eq {a : Memref sig .tc .vmem S2048x128 .f32} {f : a.view.ty.Contents (Elt Ideal)} {X : Vec Ideal S2048x128 .f32} (h : Holds a f X) :
    scaleR i a f = scaleV i X := funext fun _ => h _

theorem dyR_eq {a : Memref sig .tc .vmem S1x512x1152 .fp8e5m2} {f : a.view.ty.Contents (Elt Ideal)} {X : Vec Ideal S1x512x1152 .fp8e5m2} (h : Holds a f X) :
    dyR a f = dyV X := funext fun _ => funext fun _ => h _

theorem rowR_eq {a : Memref sig .tc .vmem S1x1152 .f32} {f : a.view.ty.Contents (Elt Ideal)} {X : Vec Ideal S1x1152 .f32} (h : Holds a f X) :
    rowR a f = rowV X := funext fun _ => h _

/-- Row scales of a block of weight rows, as loaded and repeated along the lanes. -/
def scR (a : Memref sig .tc .vmem S1x1152 .f32) (f : a.view.ty.Contents (Elt Ideal)) (o : Fin 9) : FVec Ideal S128x128 .f32 := k0_pay8 (rowR a f o)

/-- A block of rows of the low-rank product, as loaded and multiplied. -/
def baR (a4 : Memref sig .tc .vmem S64x3584 .bf16) (f4 : a4.view.ty.Contents (Elt Ideal)) (a5 : Memref sig .tc .vmem S1152x64 .bf16)
    (f5 : a5.view.ty.Contents (Elt Ideal)) (o : Fin 9) : FVec Ideal S128x3584 .f32 :=
  k0_pay9 (View.readAt (Elt Ideal) a4.view (Rect.unit ![0, 0] S64x3584.size inb_S64x3584_S64x3584_0_0).toLoadRect f4)
    (View.readAt (Elt Ideal) a5.view (rectB o).toLoadRect f5)

/-- A tile of the weight codes, as loaded. -/
def wR (a : Memref sig .tc .vmem S1152x3584 .fp8e4m3) (f : a.view.ty.Contents (Elt Ideal)) (o : Fin 9) (k : Fin 28) : Vec Ideal S128x128 .fp8e4m3 :=
  View.readAt (Elt Ideal) a.view (rectV o k).toLoadRect f

/-- A block of the gradient's row scales, as loaded. -/
def dsR (a : Memref sig .tc .vmem S2x1024 .f32) (f : a.view.ty.Contents (Elt Ideal)) (k : Fin 16) : Vec Ideal S1x128 .f32 :=
  View.readAt (Elt Ideal) a.view (rectDs (md 2 (k.val / 8)) (md 8 k)).toLoadRect f

/-- The same five, of the arrays themselves. -/
def scV (X : Vec Ideal S1x1152 .f32) (o : Fin 9) : FVec Ideal S128x128 .f32 := k0_pay8 (rowV X o)
@[inherit_doc scV] def baV (A : Vec Ideal S64x3584 .bf16) (B : Vec Ideal S1152x64 .bf16) (o : Fin 9) : FVec Ideal S128x3584 .f32 :=
  k0_pay9 A (fun j => B ((rectB o).toLoadRect.idx j))
@[inherit_doc scV] def wV (X : Vec Ideal S1152x3584 .fp8e4m3) (o : Fin 9) (k : Fin 28) : Vec Ideal S128x128 .fp8e4m3 := fun j => X ((rectV o k).toLoadRect.idx j)
@[inherit_doc scV] def dsV (X : Vec Ideal S2x1024 .f32) (k : Fin 16) : Vec Ideal S1x128 .f32 := fun j => X ((rectDs (md 2 (k.val / 8)) (md 8 k)).toLoadRect.idx j)

theorem scR_eq {a : Memref sig .tc .vmem S1x1152 .f32} {f : a.view.ty.Contents (Elt Ideal)} {X : Vec Ideal S1x1152 .f32} (h : Holds a f X) :
    scR a f = scV X := funext fun _ => congrArg k0_pay8 (h _)

theorem baR_eq {a4 : Memref sig .tc .vmem S64x3584 .bf16} {f4 : a4.view.ty.Contents (Elt Ideal)} {A : Vec Ideal S64x3584 .bf16} (h4 : Holds a4 f4 A)
    {a5 : Memref sig .tc .vmem S1152x64 .bf16} {f5 : a5.view.ty.Contents (Elt Ideal)} {B : Vec Ideal S1152x64 .bf16} (h5 : Holds a5 f5 B) :
    baR a4 f4 a5 f5 = baV A B := funext fun _ => congrArg₂ k0_pay9 (h4.whole zeros2 _) (h5 _)

theorem wR_eq {a : Memref sig .tc .vmem S1152x3584 .fp8e4m3} {f : a.view.ty.Contents (Elt Ideal)} {X : Vec Ideal S1152x3584 .fp8e4m3} (h : Holds a f X) :
    wR a f = wV X := funext fun _ => funext fun _ => h _

theorem dsR_eq {a : Memref sig .tc .vmem S2x1024 .f32} {f : a.view.ty.Contents (Elt Ideal)} {X : Vec Ideal S2x1024 .f32} (h : Holds a f X) :
    dsR a f = dsV X := funext fun _ => h _

/-! ## The gradient a point builds -/

/-- A point's gradient: its codes, its row scales and the rows' factors, tile by tile. -/
def gVec (dsc : Vec Ideal S2048x128 .f32) (dy : Vec Ideal S1x512x1152 .fp8e5m2) (cc : Vec Ideal S1x1152 .f32) : Vec Ideal S512x1152 .bf16 :=
  View.canon (tiles (gPiece (scaleV i dsc) (dyV dy) (rowV cc)) 36)

/-- The loads of the stack that was stored read that gradient. -/
theorem readCov_g (a20 : Memref sig .tc .vmem S512x1152 .bf16) {a19 : Memref sig .tc .vmem S2048x128 .f32} {f19 : a19.view.ty.Contents (Elt Ideal)}
    {dsc : Vec Ideal S2048x128 .f32} (h19 : Holds a19 f19 dsc)
    {a7 : Memref sig .tc .vmem S1x512x1152 .fp8e5m2} {f7 : a7.view.ty.Contents (Elt Ideal)} {dy : Vec Ideal S1x512x1152 .fp8e5m2} (h7 : Holds a7 f7 dy)
    {a18 : Memref sig .tc .vmem S1x1152 .f32} {f18 : a18.view.ty.Contents (Elt Ideal)} {cc : Vec Ideal S1x1152 .f32} (h18 : Holds a18 f18 cc) :
    a20.view.readCov (tiles (gPiece (scaleR i a19 f19) (dyR a7 f7) (rowR a18 f18)) 36)
      (Rect.unit ![0, 0] S512x1152.size inb_S512x1152_S512x1152_0_0).toLoadRect = gVec i dsc dy cc := by
  rw [scaleR_eq i h19, dyR_eq h7, rowR_eq h18]
  exact Holds.whole (holds_writes a20 _) zeros2 _

/-! ## The partial sums a point builds -/

/-- What a block of partial sums holds before a tile's contribution: what the point found for the first nine, what the point
    itself wrote for the others. -/
def dmOld (a : Memref sig .tc .vmem S8x1152 .f32) (f : a.view.ty.Contents (Elt Ideal)) (k : ℕ) (L : List (View.Piece (Elt Ideal) S8x1152 .f32)) :
    Vec Ideal S8x128 .f32 :=
  match k / 9 with
  | 0 => View.readAt (Elt Ideal) a.view (rectDm (md 9 k)).toLoadRect f
  | _ + 1 => a.view.readCov L (rectDm (md 9 k)).toLoadRect

theorem rectDm_idx (o : Fin 9) (q : Fin 8) (l : Fin 128) : (rectDm o).toLoadRect.idx (ix2 q l) = dmIdx o q l := rectDm_emb o q l

theorem readCov_dm (a : Memref sig .tc .vmem S8x1152 .f32) (L : List (View.Piece (Elt Ideal) S8x1152 .f32)) (o : Fin 9) (q : Fin 8) (l : Fin 128) :
    a.view.readCov L (rectDm o).toLoadRect (ix2 q l) = View.canon L (dmIdx o q l) :=
  (congrFun (holds_writes a L (rectDm o).toLoadRect) (ix2 q l)).trans (congrArg (View.canon L) (rectDm_idx o q l))

theorem dmPart_congr {z z' : FVec Ideal S512x1152 .f32} (hz : z = z') {S S' : Fin 4 → Vec Ideal S128x128 .f32} (hS : S = S')
    {D D' : Fin 4 → Fin 9 → Vec Ideal S1x128x128 .fp8e5m2} (hD : D = D') (o : Fin 9) (q : Fin 8) (l : Fin 128) (t : Fin 4) :
    dmPart z S D o q l t = dmPart z' S' D' o q l t := by
  subst hz hS hD; rfl

/-- Over partial sums already held, a point adds its four row blocks' products. -/
theorem dm_found {a : Memref sig .tc .vmem S8x1152 .f32} {f : a.view.ty.Contents (Elt Ideal)} {X : Vec Ideal S8x1152 .f32} (h : Holds a f X)
    (z : FVec Ideal S512x1152 .f32) (S : Fin 4 → Vec Ideal S128x128 .f32) (D : Fin 4 → Fin 9 → Vec Ideal S1x128x128 .fp8e5m2)
    (o : Fin 9) (q : Fin 8) (l : Fin 128) :
    View.canon (dmStack [] (dmOld a f) z S D 36) (dmIdx o q l) = X (dmIdx o q l) + ∑ t : Fin 4, dmPart z S D o q l t := by
  refine dmStack_all [] (dmOld a f) z S D (fun q o => X (ix2 q o)) (fun k hk q l => ?_) (fun k hk q l => ?_) o q l
  · have e : k / 9 = 0 := by omega
    unfold dmOld; rw [e]
    exact (congrFun (h (rectDm (md 9 k)).toLoadRect) (ix2 q l)).trans (congrArg X (rectDm_idx (md 9 k) q l))
  · obtain ⟨n, e⟩ : ∃ n, k / 9 = n + 1 := ⟨k / 9 - 1, by omega⟩
    have e2 : dmOld a f k (dmStack [] (dmOld a f) z S D k) = a.view.readCov (dmStack [] (dmOld a f) z S D k) (rectDm (md 9 k)).toLoadRect := by
      conv_lhs => unfold dmOld
      rw [e]; rfl
    rw [e2]; exact readCov_dm a _ (md 9 k) q l

/-- Over partial sums just cleared, likewise. -/
theorem dm_cleared (a : Memref sig .tc .vmem S8x1152 .f32) (X : Vec Ideal S8x1152 .f32)
    (z : FVec Ideal S512x1152 .f32) (S : Fin 4 → Vec Ideal S128x128 .f32) (D : Fin 4 → Fin 9 → Vec Ideal S1x128x128 .fp8e5m2)
    (o : Fin 9) (q : Fin 8) (l : Fin 128) :
    View.canon (dmStack [⟨Rect.unit ![0, 0] S8x1152.size inb_S8x1152_S8x1152_0_0, X⟩]
        (fun k L => a.view.readCov L (rectDm (md 9 k)).toLoadRect) z S D 36) (dmIdx o q l)
      = X (dmIdx o q l) + ∑ t : Fin 4, dmPart z S D o q l t := by
  refine dmStack_all _ _ z S D (fun q o => X (ix2 q o)) (fun k hk q l => ?_) (fun k hk q l => readCov_dm a _ (md 9 k) q l) o q l
  refine (readCov_dm a _ (md 9 k) q l).trans ((dmStack_untouched _ _ z S D (md 9 k) q l k ?_).trans ?_)
  · show k ≤ k % 9; omega
  · exact congrFun (View.canon_cons_unit_zero (S := S8x1152) zeros2 inb_S8x1152_S8x1152_0_0 X []) (dmIdx (md 9 k) q l)

end Cert.KernelIdeal.Tiles

end
-- ==== Proof.StepA.lean ====
/-
  What the first grid point leaves: the combined weight, its norms and factors, the turned row scales and the turned second
  factor, which every later point reads; and, over them, what every point leaves.
-/
module

public import proofs.«01_k».proof.Proof.Reads
public import proofs.«01_k».proof.Proof.Gen.KernelIdeal.Frame

@[expose] public section

set_option maxRecDepth 16384

noncomputable section

open Idealize.ShloMosaic Idealize.ShloMosaic.TcCoe Cert.KernelIdeal.Gen

namespace Cert.KernelIdeal.Tiles

variable (m : (ℓ : Loc nD τ sig) → Buf (Elt Ideal) ℓ) (c : Dev nD)

/-- The combined weight the blocks of a point make. -/
abbrev vArr (t : Fin cfg0.N) : Vec Ideal S1152x3584 .bf16 :=
  View.canon (tiles (vPiece (scV (iblk m c 2 t)) (baV (iblk m c 3 t) (iblk m c 4 t)) (wV (iblk m c 1 t))) 252)

/-- The squares of its rows. -/
abbrev sqArr (t : Fin cfg0.N) (o : Fin 9) : FVec Ideal S128x128 .f32 :=
  sqAcc (scV (iblk m c 2 t) o) (baV (iblk m c 3 t) (iblk m c 4 t) o) (wV (iblk m c 1 t) o) 28

/-- Their norms, zeros replaced by ones. -/
abbrev nArr (t : Fin cfg0.N) : Vec Ideal S1x1152 .f32 := View.canon (tiles (rowPiece fun o => nStore (sqArr m c t o)) 9)

/-- The rows' factors. -/
abbrev facArr (t : Fin cfg0.N) : Vec Ideal S1x1152 .f32 :=
  View.canon (tiles (rowPiece fun o => cStore (sqArr m c t o) (rowV (iblk m c 5 t) o)) 9)

/-- The row scales turned to columns. -/
abbrev dscArr (t : Fin cfg0.N) : Vec Ideal S2048x128 .f32 := View.canon (tiles (dscPiece (dsV (iblk m c 7 t))) 16)

/-- The gradient the first point builds. -/
abbrev gFirst (t : Fin cfg0.N) : Vec Ideal S512x1152 .bf16 := gVec (grid0.coords t) (dscArr m c t) (iblk m c 6 t) (facArr m c t)

/-- The combined weight, over the blocks as the point loads them. -/
theorem vArr_eq (t : Fin cfg0.N) : View.canon (tiles (vPiece (scR (ms0_2 t) ((hs0_2 t).unread (iblk m c 2 t))) (baR (ms0_3 t) ((hs0_3 t).unread (iblk m c 3 t)) (ms0_4 t) ((hs0_4 t).unread (iblk m c 4 t)))
    (wR (ms0_1 t) ((hs0_1 t).unread (iblk m c 1 t)))) 252) = vArr m c t := by
  rw [scR_eq (holds_unread (ms0_2 t) (hs0_2 t) _), baR_eq (holds_unread (ms0_3 t) (hs0_3 t) _) (holds_unread (ms0_4 t) (hs0_4 t) _), wR_eq (holds_unread (ms0_1 t) (hs0_1 t) _)]

@[inherit_doc vArr_eq] theorem nArr_eq (t : Fin cfg0.N) : View.canon (tiles (rowPiece fun o => nStore
    (sqAcc (scR (ms0_2 t) ((hs0_2 t).unread (iblk m c 2 t)) o) (baR (ms0_3 t) ((hs0_3 t).unread (iblk m c 3 t)) (ms0_4 t) ((hs0_4 t).unread (iblk m c 4 t)) o) (wR (ms0_1 t) ((hs0_1 t).unread (iblk m c 1 t)) o) 28)) 9) = nArr m c t := by
  rw [scR_eq (holds_unread (ms0_2 t) (hs0_2 t) _), baR_eq (holds_unread (ms0_3 t) (hs0_3 t) _) (holds_unread (ms0_4 t) (hs0_4 t) _), wR_eq (holds_unread (ms0_1 t) (hs0_1 t) _)]

@[inherit_doc vArr_eq] theorem facArr_eq (t : Fin cfg0.N) : View.canon (tiles (rowPiece fun o => cStore
    (sqAcc (scR (ms0_2 t) ((hs0_2 t).unread (iblk m c 2 t)) o) (baR (ms0_3 t) ((hs0_3 t).unread (iblk m c 3 t)) (ms0_4 t) ((hs0_4 t).unread (iblk m c 4 t)) o) (wR (ms0_1 t) ((hs0_1 t).unread (iblk m c 1 t)) o) 28)
    (rowR (ms0_5 t) ((hs0_5 t).unread (iblk m c 5 t)) o)) 9) = facArr m c t := by
  rw [scR_eq (holds_unread (ms0_2 t) (hs0_2 t) _), baR_eq (holds_unread (ms0_3 t) (hs0_3 t) _) (holds_unread (ms0_4 t) (hs0_4 t) _), wR_eq (holds_unread (ms0_1 t) (hs0_1 t) _), rowR_eq (holds_unread (ms0_5 t) (hs0_5 t) _)]

@[inherit_doc vArr_eq] theorem dscArr_eq (t : Fin cfg0.N) :
    View.canon (tiles (dscPiece (dsR (ms0_7 t) ((hs0_7 t).unread (iblk m c 7 t)))) 16) = dscArr m c t := by
  rw [dsR_eq (holds_unread (ms0_7 t) (hs0_7 t) _)]

/-- What the point's own loads of the combined weight read. -/
theorem readV (t : Fin cfg0.N) (a : Memref sig .tc .vmem S1152x3584 .bf16) : a.view.readCov (tiles (vPiece (scR (ms0_2 t) ((hs0_2 t).unread (iblk m c 2 t)))
    (baR (ms0_3 t) ((hs0_3 t).unread (iblk m c 3 t)) (ms0_4 t) ((hs0_4 t).unread (iblk m c 4 t))) (wR (ms0_1 t) ((hs0_1 t).unread (iblk m c 1 t)))) 252)
    (Rect.unit ![0, 0] S1152x3584.size inb_S1152x3584_S1152x3584_0_0).toLoadRect = vArr m c t :=
  ((holds_writes a _).whole zeros2 _).trans (vArr_eq m c t)

/-- The turned scales and the rows' factors, as the point's own stores leave them. -/
theorem holdsDsc (t : Fin cfg0.N) (a : Memref sig .tc .vmem S2048x128 .f32) :
    Holds a (a.view.writes (Elt Ideal) a.view.junk (tiles (dscPiece (dsR (ms0_7 t) ((hs0_7 t).unread (iblk m c 7 t)))) 16)) (dscArr m c t) := by
  rw [← dscArr_eq]; exact holds_writes a _

@[inherit_doc holdsDsc] theorem holdsFac (t : Fin cfg0.N) (a : Memref sig .tc .vmem S1x1152 .f32) :
    Holds a (a.view.writes (Elt Ideal) a.view.junk (tiles (rowPiece fun o => cStore
      (sqAcc (scR (ms0_2 t) ((hs0_2 t).unread (iblk m c 2 t)) o) (baR (ms0_3 t) ((hs0_3 t).unread (iblk m c 3 t)) (ms0_4 t) ((hs0_4 t).unread (iblk m c 4 t)) o) (wR (ms0_1 t) ((hs0_1 t).unread (iblk m c 1 t)) o) 28)
      (rowR (ms0_5 t) ((hs0_5 t).unread (iblk m c 5 t)) o)) 9)) (facArr m c t) := by
  rw [← facArr_eq]; exact holds_writes a _

/-- The turned second factor, read back. -/
theorem readBt (t : Fin cfg0.N) (a : Memref sig .tc .vmem S64x1152 .bf16) : a.view.readCov (Val := Elt Ideal) [⟨Rect.unit ![0, 0] S64x1152.size inb_S64x1152_S64x1152_0_0,
      k0_pay7 (View.readAt (Elt Ideal) (ms0_4 t).view (Rect.unit ![0, 0] S1152x64.size inb_S1152x64_S1152x64_0_0).toLoadRect ((hs0_4 t).unread (iblk m c 4 t)))⟩]
    (Rect.unit ![0, 0] S64x1152.size inb_S64x1152_S64x1152_0_0).toLoadRect = (k0_pay7 (F := Ideal) (iblk m c 4 t) : Vec Ideal S64x1152 .bf16) :=
  ((holds_writes a _).whole zeros2 _).trans ((View.canon_cons_unit_zero zeros2 _ _ []).trans (congrArg k0_pay7 ((holds_unread (ms0_4 t) (hs0_4 t) _).whole zeros2 _)))

section

variable (t : Fin cfg0.N) (h0 : t.val % 4 = 0) (h1 : ¬ t.val % 4 = 3)
include h0 h1

theorem v_A : (outsAt0 (F := Ideal) m c t.val t.isLt).2.2.2.2.2.2.2.1 = vArr m c t := by
  rw [outsAt0_A m c t h0 h1]; dsimp only; unfold sout0_A_0
  rw [View.read_writes_junk_eq_canon]
  refine Eq.trans ?_ (vArr_eq m c t); rfl

theorem n_A : (outsAt0 (F := Ideal) m c t.val t.isLt).2.2.2.2.2.2.2.2.1 = nArr m c t := by
  rw [outsAt0_A m c t h0 h1]; dsimp only; unfold sout0_A_1
  rw [View.read_writes_junk_eq_canon]
  refine Eq.trans ?_ (nArr_eq m c t); rfl

theorem fac_A : (outsAt0 (F := Ideal) m c t.val t.isLt).2.2.2.2.2.2.2.2.2.1 = facArr m c t := by
  rw [outsAt0_A m c t h0 h1]; dsimp only; unfold sout0_A_2
  rw [View.read_writes_junk_eq_canon]
  refine Eq.trans ?_ (facArr_eq m c t); rfl

theorem dsc_A : (outsAt0 (F := Ideal) m c t.val t.isLt).2.2.2.2.2.2.2.2.2.2.1 = dscArr m c t := by
  rw [outsAt0_A m c t h0 h1]; dsimp only; unfold sout0_A_3
  rw [View.read_writes_junk_eq_canon]
  refine Eq.trans ?_ (dscArr_eq m c t); rfl

theorem bt_A : (outsAt0 (F := Ideal) m c t.val t.isLt).2.2.2.2.2.2.2.2.2.2.2.1 = k0_pay7 (F := Ideal) (iblk m c 4 t) := by
  rw [outsAt0_A m c t h0 h1]; dsimp only; unfold sout0_A_5
  rw [View.read_writes_junk_eq_canon]
  refine (View.canon_cons_unit_zero zeros2 _ _ []).trans ?_
  exact congrArg k0_pay7 ((holds_unread (ms0_4 t) (hs0_4 t) _).whole zeros2 _)

theorem dx_A : (outsAt0 (F := Ideal) m c t.val t.isLt).1 = k0_pay812 (gFirst m c t) (vArr m c t) := by
  rw [outsAt0_A m c t h0 h1]; dsimp only; unfold out0_A_8
  rw [View.read_writes_junk_eq_canon]
  refine (View.canon_cons_unit_zero zeros3 _ _ _).trans ?_
  exact congrArg₂ k0_pay812 (readCov_g (grid0.coords t) scM0_4 (holdsDsc m c t scM0_3)
    (holds_unread (ms0_6 t) (hs0_6 t) _) (holdsFac m c t scM0_2))
    (readV m c t scM0_0)

theorem z_A : (outsAt0 (F := Ideal) m c t.val t.isLt).2.2.2.2.1 = k0_pay688 (iblk m c 0 t) (vArr m c t) := by
  rw [outsAt0_A m c t h0 h1]; dsimp only; unfold out0_A_12
  rw [View.read_writes_junk_eq_canon]
  refine (View.canon_cons_unit_zero zeros3 _ _ _).trans ?_
  exact congrArg₂ k0_pay688 ((holds_unread (ms0_0 t) (hs0_0 t) _).whole zeros3 _) (readV m c t scM0_0)

theorem xa_A : (outsAt0 (F := Ideal) m c t.val t.isLt).2.2.2.2.2.1 = k0_pay689 (iblk m c 0 t) (iblk m c 3 t) := by
  rw [outsAt0_A m c t h0 h1]; dsimp only; unfold out0_A_13
  rw [View.read_writes_junk_eq_canon]
  refine (View.canon_cons_unit_zero zeros3 _ _ _).trans ?_
  exact congrArg₂ k0_pay689 ((holds_unread (ms0_0 t) (hs0_0 t) _).whole zeros3 _) ((holds_unread (ms0_3 t) (hs0_3 t) _).whole zeros2 _)

theorem gb_A : (outsAt0 (F := Ideal) m c t.val t.isLt).2.2.2.2.2.2.1 = k0_pay1 (k0_pay814 (gFirst m c t) (k0_pay7 (F := Ideal) (iblk m c 4 t))) := by
  rw [outsAt0_A m c t h0 h1]; dsimp only; unfold out0_A_14
  rw [View.read_writes_junk_eq_canon]
  refine (View.canon_cons_unit_zero zeros3 _ _ _).trans ?_
  exact congrArg k0_pay1 (congrArg₂ k0_pay814 (readCov_g (grid0.coords t) scM0_4 (holdsDsc m c t scM0_3)
    (holds_unread (ms0_6 t) (hs0_6 t) _) (holdsFac m c t scM0_2)) (readBt m c t scM0_5))

theorem daAcc_A : (outsAt0 (F := Ideal) m c t.val t.isLt).2.2.2.2.2.2.2.2.2.2.2.2.1 = k0_pay2 (k0_pay685 (iblk m c 0 t)) (k0_pay813 (gFirst m c t) (k0_pay7 (F := Ideal) (iblk m c 4 t))) (k0_pay682 (F := Ideal) k0_pay681) := by
  rw [outsAt0_A m c t h0 h1]; dsimp only; unfold sout0_A_6
  rw [View.read_writes_junk_eq_canon]
  refine (View.canon_cons_unit_zero zeros2 _ _ _).trans ?_
  exact congr (congrArg₂ k0_pay2 (congrArg k0_pay685 ((holds_unread (ms0_0 t) (hs0_0 t) _).whole zeros3 _)) (congrArg₂ k0_pay813 (readCov_g (grid0.coords t) scM0_4 (holdsDsc m c t scM0_3)
    (holds_unread (ms0_6 t) (hs0_6 t) _) (holdsFac m c t scM0_2)) (readBt m c t scM0_5)))
    (((holds_writes scM0_6 _).whole zeros2 _).trans (View.canon_cons_unit_zero zeros2 _ _ []))

theorem dbAcc_A : (outsAt0 (F := Ideal) m c t.val t.isLt).2.2.2.2.2.2.2.2.2.2.2.2.2.1 = k0_pay3 (k0_pay687 (iblk m c 0 t) (iblk m c 3 t)) (gFirst m c t) (k0_pay683 (F := Ideal)) := by
  rw [outsAt0_A m c t h0 h1]; dsimp only; unfold sout0_A_7
  rw [View.read_writes_junk_eq_canon]
  refine (View.canon_cons_unit_zero zeros2 _ _ _).trans ?_
  exact congr (congrArg₂ k0_pay3 (congrArg₂ k0_pay687 ((holds_unread (ms0_0 t) (hs0_0 t) _).whole zeros3 _) ((holds_unread (ms0_3 t) (hs0_3 t) _).whole zeros2 _)) (readCov_g (grid0.coords t) scM0_4 (holdsDsc m c t scM0_3)
    (holds_unread (ms0_6 t) (hs0_6 t) _) (holdsFac m c t scM0_2)))
    (((holds_writes scM0_7 _).whole zeros2 _).trans (View.canon_cons_unit_zero zeros2 _ _ []))

end

end Cert.KernelIdeal.Tiles

end
-- ==== Proof.Blocks.lean ====
/-
  Where the kernel's blocks lie in its arguments: the entries a grid point finds in each input block, read off the eight
  arguments as launched; and the arrays a point builds out of them, at coordinates.
-/
module

public import proofs.«01_k».proof.Proof.Reads
public import proofs.«01_k».proof.Proof.Gen.KernelIdeal.Frame
public import Idealize.ShloMosaic.Lib.Claim

@[expose] public section

set_option maxRecDepth 16384

noncomputable section

open Idealize.ShloMosaic Idealize.ShloMosaic.TcCoe Idealize.SL.Sem Cert.KernelIdeal.Gen

namespace Cert.KernelIdeal.Tiles

variable (m : (ℓ : Loc nD τ sig) → Buf (Elt Ideal) ℓ) (c : Dev nD)

/-- The arguments as launched, read at coordinates. -/
abbrev args : Dora.In :=
  Dora.ofArrays (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

/-- The batch a point works on. -/
def bt (n : ℕ) : Fin 2 := md 2 (n / 2)

/-- The row of the batch that row `p` of a point's block is. -/
def st (n : ℕ) (p : Fin 512) : Fin 1024 := ⟨512 * (n % 2) + p.val, by omega⟩

theorem N4 (t : Fin cfg0.N) : t.val < 4 := lt_of_lt_of_eq t.isLt N_0

theorem coords_val : ∀ t : Fin cfg0.N, (grid0.coords t 0).val = t.val := (by decide +kernel : ∀ t : Fin grid0.N, (grid0.coords t 0).val = t.val)
theorem index0 : ∀ t : Fin cfg0.N, win0_0.index t = ![t.val / 2, t.val % 2, 0] := (by decide +kernel : ∀ t : Fin grid0.N, win0_0.index t = ![t.val / 2, t.val % 2, 0])
theorem index6 : ∀ t : Fin cfg0.N, win0_6.index t = ![t.val / 2, t.val % 2, 0] := (by decide +kernel : ∀ t : Fin grid0.N, win0_6.index t = ![t.val / 2, t.val % 2, 0])
theorem index1 : ∀ t : Fin cfg0.N, win0_1.index t = ![0, 0] := (by decide +kernel : ∀ t : Fin grid0.N, win0_1.index t = ![0, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index7 : ∀ t : Fin cfg0.N, win0_7.index t = ![0, 0] := (by decide +kernel : ∀ t : Fin grid0.N, win0_7.index t = ![0, 0])

/-- A point's block of activations. -/
theorem blk_x (t : Fin cfg0.N) (u : Fin 1) (p : Fin 512) (i : Fin 3584) :
    (iblk m c 0 t : Vec Ideal S1x512x3584 .bf16) (ix3 u p i) = (args m c).x (bt t) (st t p) i := by
  have hN := N4 t
  show V m c main_arg0 (((cfg0.win 0).blk t).view.emb (ix3 u p i)) = _
  rw [V_main_arg0]
  refine congrArg (m ((c.tc : Thread nD τ).loc main_arg0)) (funext fun a => Fin.ext ?_)
  match a with
  | ⟨0, _⟩ => show win0_0.index t (0 : Fin 3) * 1 + 1 * u.val = t.val / 2 % 2; rw [index0 t]; show t.val / 2 * 1 + 1 * u.val = _; omega
  | ⟨1, _⟩ => show win0_0.index t (1 : Fin 3) * 512 + 1 * p.val = 512 * (t.val % 2) + p.val; rw [index0 t]; show t.val % 2 * 512 + 1 * p.val = _; omega
  | ⟨2, _⟩ => show win0_0.index t (2 : Fin 3) * 3584 + 1 * i.val = i.val; rw [index0 t]; show 0 * 3584 + 1 * i.val = _; omega

/-- A point's block of gradient codes. -/
theorem blk_dy (t : Fin cfg0.N) (u : Fin 1) (p : Fin 512) (o : Fin 1152) :
    (iblk m c 6 t : Vec Ideal S1x512x1152 .fp8e5m2) (ix3 u p o) = (args m c).dy (bt t) (st t p) o := by
  have hN := N4 t
  show V m c main_arg6 (((cfg0.win 6).blk t).view.emb (ix3 u p o)) = _
  rw [V_main_arg6]
  refine congrArg (m ((c.tc : Thread nD τ).loc main_arg6)) (funext fun a => Fin.ext ?_)
  match a with
  | ⟨0, _⟩ => show win0_6.index t (0 : Fin 3) * 1 + 1 * u.val = t.val / 2 % 2; rw [index6 t]; show t.val / 2 * 1 + 1 * u.val = _; omega
  | ⟨1, _⟩ => show win0_6.index t (1 : Fin 3) * 512 + 1 * p.val = 512 * (t.val % 2) + p.val; rw [index6 t]; show t.val % 2 * 512 + 1 * p.val = _; omega
  | ⟨2, _⟩ => show win0_6.index t (2 : Fin 3) * 1152 + 1 * o.val = o.val; rw [index6 t]; show 0 * 1152 + 1 * o.val = _; omega

/-- The weight codes' block is the whole array. -/
theorem blk_w (t : Fin cfg0.N) (o : Fin 1152) (i : Fin 3584) : (iblk m c 1 t : Vec Ideal S1152x3584 .fp8e4m3) (ix2 o i) = (args m c).w o i := by
  show V m c main_arg1 (((cfg0.win 1).blk t).view.emb (ix2 o i)) = _
  rw [V_main_arg1]
  refine congrArg (m ((c.tc : Thread nD τ).loc main_arg1)) (funext fun a => Fin.ext ?_)
  match a with
  | ⟨0, _⟩ => show win0_1.index t (0 : Fin 2) * 1152 + 1 * o.val = o.val; rw [index1 t]; show 0 * 1152 + 1 * o.val = _; omega
  | ⟨1, _⟩ => show win0_1.index t (1 : Fin 2) * 3584 + 1 * i.val = i.val; rw [index1 t]; show 0 * 3584 + 1 * i.val = _; omega

/-- The first factor's block is the whole array. -/
theorem blk_a (t : Fin cfg0.N) (r : Fin 64) (i : Fin 3584) : (iblk m c 3 t : Vec Ideal S64x3584 .bf16) (ix2 r i) = (args m c).a r i := by
  show V m c main_arg3 (((cfg0.win 3).blk t).view.emb (ix2 r i)) = _
  rw [V_main_arg3]
  refine congrArg (m ((c.tc : Thread nD τ).loc main_arg3)) (funext fun a => Fin.ext ?_)
  match a with
  | ⟨0, _⟩ => show win0_3.index t (0 : Fin 2) * 64 + 1 * r.val = r.val; rw [index3 t]; show 0 * 64 + 1 * r.val = _; omega
  | ⟨1, _⟩ => show win0_3.index t (1 : Fin 2) * 3584 + 1 * i.val = i.val; rw [index3 t]; show 0 * 3584 + 1 * i.val = _; omega

/-- The second factor's block is the whole array. -/
theorem blk_b (t : Fin cfg0.N) (o : Fin 1152) (r : Fin 64) : (iblk m c 4 t : Vec Ideal S1152x64 .bf16) (ix2 o r) = (args m c).b o r := by
  show V m c main_arg4 (((cfg0.win 4).blk t).view.emb (ix2 o r)) = _
  rw [V_main_arg4]
  refine congrArg (m ((c.tc : Thread nD τ).loc main_arg4)) (funext fun a => Fin.ext ?_)
  match a with
  | ⟨0, _⟩ => show win0_4.index t (0 : Fin 2) * 1152 + 1 * o.val = o.val; rw [index4 t]; show 0 * 1152 + 1 * o.val = _; omega
  | ⟨1, _⟩ => show win0_4.index t (1 : Fin 2) * 64 + 1 * r.val = r.val; rw [index4 t]; show 0 * 64 + 1 * r.val = _; omega

/-- The gradient's row scales' block is the whole array. -/
theorem blk_ds (t : Fin cfg0.N) (b : Fin 2) (s : Fin 1024) : (iblk m c 7 t : Vec Ideal S2x1024 .f32) (ix2 b s) = (args m c).ds b s := by
  show V m c main_arg7 (((cfg0.win 7).blk t).view.emb (ix2 b s)) = _
  rw [V_main_arg7]
  refine congrArg (m ((c.tc : Thread nD τ).loc main_arg7)) (funext fun a => Fin.ext ?_)
  match a with
  | ⟨0, _⟩ => show win0_7.index t (0 : Fin 2) * 2 + 1 * b.val = b.val; rw [index7 t]; show 0 * 2 + 1 * b.val = _; omega
  | ⟨1, _⟩ => show win0_7.index t (1 : Fin 2) * 1024 + 1 * s.val = s.val; rw [index7 t]; show 0 * 1024 + 1 * s.val = _; omega

/-- The weight's row scales, which the host laid out as a row, read at a column. -/
theorem entry_ws (u : Fin 1) (o : Fin 1152) : (V m c main_v0 : Vec Ideal S1x1152 .f32) (ix2 u o) = (args m c).ws o := by
  entry_read
  pointwise

/-- The magnitudes, which the host laid out as a row, read at a column. -/
theorem entry_m (u : Fin 1) (o : Fin 1152) : (V m c main_v1 : Vec Ideal S1x1152 .f32) (ix2 u o) = (args m c).m o := by
  entry_read
  pointwise

/-- The weight's row scales' block. -/
theorem blk_ws (t : Fin cfg0.N) (u : Fin 1) (o : Fin 1152) : (iblk m c 2 t : Vec Ideal S1x1152 .f32) (ix2 u o) = (args m c).ws o := by
  show V m c main_v0 (((cfg0.win 2).blk t).view.emb (ix2 u o)) = _
  rw [← entry_ws m c u o]
  refine congrArg (V m c main_v0) (funext fun a => Fin.ext ?_)
  match a with
  | ⟨0, _⟩ => show win0_2.index t (0 : Fin 2) * 1 + 1 * u.val = u.val; rw [index2 t]; show 0 * 1 + 1 * u.val = _; omega
  | ⟨1, _⟩ => show win0_2.index t (1 : Fin 2) * 1152 + 1 * o.val = o.val; rw [index2 t]; show 0 * 1152 + 1 * o.val = _; omega

/-- The magnitudes' block. -/
theorem blk_m (t : Fin cfg0.N) (u : Fin 1) (o : Fin 1152) : (iblk m c 5 t : Vec Ideal S1x1152 .f32) (ix2 u o) = (args m c).m o := by
  show V m c main_v1 (((cfg0.win 5).blk t).view.emb (ix2 u o)) = _
  rw [← entry_m m c u o]
  refine congrArg (V m c main_v1) (funext fun a => Fin.ext ?_)
  match a with
  | ⟨0, _⟩ => show win0_5.index t (0 : Fin 2) * 1 + 1 * u.val = u.val; rw [index5 t]; show 0 * 1 + 1 * u.val = _; omega
  | ⟨1, _⟩ => show win0_5.index t (1 : Fin 2) * 1152 + 1 * o.val = o.val; rw [index5 t]; show 0 * 1152 + 1 * o.val = _; omega

end Cert.KernelIdeal.Tiles

end
-- ==== Proof.Pays.lean ====
/-
  The kernel's products and sums over whole blocks, read at an index.
-/
module

public import proofs.«01_k».proof.Proof.Tiles

@[expose] public section

set_option maxRecDepth 16384

noncomputable section

open Idealize.ShloMosaic Idealize.ShloMosaic.TcCoe Cert.KernelIdeal.Gen

namespace Cert.KernelIdeal.Tiles

theorem pay1_at (X : FVec Ideal S512x64 .bf16) (u : Fin 1) (p : Fin 512) (r : Fin 64) :
    k0_pay1 X (ix3 u p r) = X (ix2 p r) := by
  pointwise [k0_pay1]

theorem pay2_at (X : FVec Ideal S512x3584 .bf16) (G : FVec Ideal S64x512 .f32) (old : Vec Ideal S64x3584 .f32) (r : Fin 64) (i : Fin 3584) :
    k0_pay2 X G old (ix2 r i) = old (ix2 r i) + ∑ p : Fin 512, G (ix2 r p) * X (ix2 p i) := by
  pointwise [k0_pay2]

theorem pay3_at (xa : FVec Ideal S512x64 .f32) (G : Vec Ideal S512x1152 .bf16) (old : Vec Ideal S64x1152 .f32) (r : Fin 64) (o : Fin 1152) :
    k0_pay3 xa G old (ix2 r o) = old (ix2 r o) + ∑ p : Fin 512, xa (ix2 p r) * G (ix2 p o) := by
  pointwise [k0_pay3]

theorem pay4_at (X : Vec Ideal S64x3584 .f32) (r : Fin 64) (i : Fin 3584) : k0_pay4 X (ix2 r i) = X (ix2 r i) := by
  pointwise [k0_pay4]

theorem pay5_at (X : Vec Ideal S64x1152 .f32) (o : Fin 1152) (r : Fin 64) : k0_pay5 X (ix2 o r) = X (ix2 r o) := by
  pointwise [k0_pay5]

theorem pay6_at (M : Vec Ideal S8x1152 .f32) (N : Vec Ideal S1x1152 .f32) (u : Fin 1) (o : Fin 1152) :
    k0_pay6 M N (ix2 u o) = Ideal.div (∑ q : Fin 8, M (ix2 q o)) (N (ix2 u o)) := by
  pointwise [k0_pay6]

theorem pay7_at (B : Vec Ideal S1152x64 .bf16) (r : Fin 64) (o : Fin 1152) : k0_pay7 B (ix2 r o) = B (ix2 o r) := by
  pointwise [k0_pay7]

theorem pay8_at (X : Vec Ideal S1x128 .f32) (p q : Fin 128) : k0_pay8 X (ix2 p q) = X (ix2 (0 : Fin 1) p) := by
  pointwise [k0_pay8]

theorem pay9_at (A : Vec Ideal S64x3584 .bf16) (B : Vec Ideal S128x64 .bf16) (p : Fin 128) (i : Fin 3584) :
    k0_pay9 A B (ix2 p i) = ∑ r : Fin 64, B (ix2 p r) * A (ix2 r i) := by
  pointwise [k0_pay9]

theorem pay682_at (r : Fin 64) (i : Fin 3584) : k0_pay682 (F := Ideal) k0_pay681 (ix2 r i) = 0 := by
  pointwise [k0_pay682, k0_pay681]

theorem pay683_at (r : Fin 64) (o : Fin 1152) : k0_pay683 (F := Ideal) (ix2 r o) = 0 := by
  pointwise [k0_pay683]

theorem pay684_at (q : Fin 8) (o : Fin 1152) : k0_pay684 (F := Ideal) (ix2 q o) = 0 := by
  pointwise [k0_pay684]

theorem pay685_at (X : Vec Ideal S1x512x3584 .bf16) (p : Fin 512) (i : Fin 3584) : k0_pay685 X (ix2 p i) = X (ix3 (0 : Fin 1) p i) := by
  pointwise [k0_pay685]

theorem pay686_at (X : Vec Ideal S1x512x3584 .bf16) (W : Vec Ideal S1152x3584 .bf16) (p : Fin 512) (o : Fin 1152) :
    k0_pay686 X W (ix2 p o) = ∑ i : Fin 3584, X (ix3 (0 : Fin 1) p i) * W (ix2 o i) := by
  pointwise [k0_pay686, k0_pay685]

theorem pay687_at (X : Vec Ideal S1x512x3584 .bf16) (A : Vec Ideal S64x3584 .bf16) (p : Fin 512) (r : Fin 64) :
    k0_pay687 X A (ix2 p r) = ∑ i : Fin 3584, X (ix3 (0 : Fin 1) p i) * A (ix2 r i) := by
  pointwise [k0_pay687, k0_pay685]

theorem pay688_at (X : Vec Ideal S1x512x3584 .bf16) (W : Vec Ideal S1152x3584 .bf16) (u : Fin 1) (p : Fin 512) (o : Fin 1152) :
    k0_pay688 X W (ix3 u p o) = ∑ i : Fin 3584, X (ix3 (0 : Fin 1) p i) * W (ix2 o i) := by
  pointwise [k0_pay688, k0_pay686, k0_pay685]

theorem pay689_at (X : Vec Ideal S1x512x3584 .bf16) (A : Vec Ideal S64x3584 .bf16) (u : Fin 1) (p : Fin 512) (r : Fin 64) :
    k0_pay689 X A (ix3 u p r) = ∑ i : Fin 3584, X (ix3 (0 : Fin 1) p i) * A (ix2 r i) := by
  pointwise [k0_pay689, k0_pay687, k0_pay685]

theorem pay812_at (G : Vec Ideal S512x1152 .bf16) (W : Vec Ideal S1152x3584 .bf16) (u : Fin 1) (p : Fin 512) (i : Fin 3584) :
    k0_pay812 G W (ix3 u p i) = ∑ o : Fin 1152, G (ix2 p o) * W (ix2 o i) := by
  pointwise [k0_pay812]

theorem pay813_at (G : Vec Ideal S512x1152 .bf16) (B : Vec Ideal S64x1152 .bf16) (r : Fin 64) (p : Fin 512) :
    k0_pay813 G B (ix2 r p) = ∑ o : Fin 1152, B (ix2 r o) * G (ix2 p o) := by
  pointwise [k0_pay813]

theorem pay814_at (G : Vec Ideal S512x1152 .bf16) (B : Vec Ideal S64x1152 .bf16) (p : Fin 512) (r : Fin 64) :
    k0_pay814 G B (ix2 p r) = ∑ o : Fin 1152, B (ix2 r o) * G (ix2 p o) := by
  pointwise [k0_pay814, k0_pay813]

end Cert.KernelIdeal.Tiles

end
-- ==== Proof.Sums.lean ====
/-
  Sums taken block by block: one sum over all rows is the sum over the blocks of rows the kernel takes.
-/
module

public import proofs.«01_k».proof.Proof.Blocks

@[expose] public section

noncomputable section

open Idealize.ShloMosaic

namespace Cert.KernelIdeal.Tiles

theorem block_lt {a b N : ℕ} (h : a * b = N) (i : Fin a) (x : Fin b) : b * i.val + x.val < N := by
  have h1 : b * i.val + b ≤ b * a := by rw [← Nat.mul_succ]; exact Nat.mul_le_mul_left b i.isLt
  rw [Nat.mul_comm b a, h] at h1
  exact lt_of_lt_of_le (Nat.add_lt_add_left x.isLt _) h1

/-- A sum over `a * b` indices is the sum over `a` blocks of `b`. -/
theorem sum_block {a b N : ℕ} (h : a * b = N) (f : Fin N → EReal) :
    ∑ j : Fin N, f j = ∑ i : Fin a, ∑ x : Fin b, f ⟨b * i.val + x.val, block_lt h i x⟩ := by
  subst h
  rw [← finProdFinEquiv.sum_comp, Fintype.sum_prod_type]
  exact Finset.sum_congr rfl fun i _ => Finset.sum_congr rfl fun x _ => congrArg f (Fin.ext (Nat.add_comm _ _))

/-- The sum over both batches' rows is the sum over the four points' rows. -/
theorem sum_points (f : Fin 2 → Fin 1024 → EReal) :
    ∑ b : Fin 2, ∑ s : Fin 1024, f b s = ∑ n ∈ Finset.range 4, ∑ p : Fin 512, f (bt n) (st n p) := by
  have h (b : Fin 2) : ∑ s : Fin 1024, f b s = ∑ n : Fin 2, ∑ p : Fin 512, f b ⟨512 * n.val + p.val, block_lt rfl n p⟩ :=
    sum_block (a := 2) (b := 512) rfl (f b)
  simp only [h, Fin.sum_univ_two, Finset.sum_range_succ, Finset.sum_range_zero, zero_add, ← add_assoc]
  rfl

/-- The sum over a block of 512 rows is the sum over its 8 residues of the rows with that residue. -/
theorem sum_residues (f : Fin 512 → EReal) :
    ∑ q : Fin 8, ∑ k : Fin 4, ∑ u : Fin 16, f ⟨128 * k.val + (u.val * 8 + q.val), by omega⟩ = ∑ p : Fin 512, f p := by
  rw [sum_block (a := 4) (b := 128) rfl f, Finset.sum_comm]
  refine Finset.sum_congr rfl fun k _ => ?_
  rw [sum_block (a := 16) (b := 8) rfl, Finset.sum_comm]
  refine Finset.sum_congr rfl fun u _ => Finset.sum_congr rfl fun q _ => congrArg f (Fin.ext ?_)
  show 128 * k.val + (u.val * 8 + q.val) = 128 * k.val + (8 * u.val + q.val)
  omega

/-- The sum over 3584 columns, lane by lane of the 28 tiles. -/
theorem sum_lanes (f : Fin 3584 → EReal) :
    ∑ x : Fin 128, ∑ i ∈ Finset.range 28, f ⟨128 * (md 28 i).val + x.val, by omega⟩ = ∑ j : Fin 3584, f j := by
  rw [sum_block (a := 28) (b := 128) rfl f, Finset.sum_comm, Finset.sum_range]
  refine Finset.sum_congr rfl fun i _ => Finset.sum_congr rfl fun x _ => congrArg f (Fin.ext ?_)
  show 128 * (i.val % 28) + x.val = 128 * i.val + x.val
  omega

end Cert.KernelIdeal.Tiles

end
-- ==== Proof.Arrays.lean ====
/-
  The arrays the kernel keeps from its first grid point on, and what one grid point computes over them, as the plain sums of
  Spec.lean.
-/
module

public import proofs.«01_k».proof.Proof.StepA
public import proofs.«01_k».proof.Proof.Blocks
public import proofs.«01_k».proof.Proof.Pays
public import proofs.«01_k».proof.Proof.Sums

@[expose] public section

set_option maxRecDepth 16384

noncomputable section

open Idealize.ShloMosaic Idealize.ShloMosaic.TcCoe Idealize.SL.Sem Cert.KernelIdeal.Gen

namespace Cert.KernelIdeal.Tiles

/-! ## Blocks of arrays, at an index -/

theorem wV_at (X : Vec Ideal S1152x3584 .fp8e4m3) (o : Fin 9) (k : Fin 28) (p q : Fin 128) :
    wV X o k (ix2 p q) = X (ix2 (⟨128 * o.val + p.val, by omega⟩ : Fin 1152) (⟨128 * k.val + q.val, by omega⟩ : Fin 3584)) :=
  congrArg X (funext fun a => Fin.ext (by
    match a with
    | ⟨0, _⟩ => show 128 * o.val + 1 * p.val = 128 * o.val + p.val; omega
    | ⟨1, _⟩ => show 128 * k.val + 1 * q.val = 128 * k.val + q.val; omega))

theorem rowV_at (X : Vec Ideal S1x1152 .f32) (o : Fin 9) (u : Fin 1) (q : Fin 128) :
    rowV X o (ix2 u q) = X (ix2 u (⟨128 * o.val + q.val, by omega⟩ : Fin 1152)) :=
  congrArg X (funext fun a => Fin.ext (by
    match a with
    | ⟨0, _⟩ => show 0 + 1 * u.val = u.val; omega
    | ⟨1, _⟩ => show 128 * o.val + 1 * q.val = 128 * o.val + q.val; omega))

theorem rowsB_at (X : Vec Ideal S1152x64 .bf16) (o : Fin 9) (p : Fin 128) (r : Fin 64) :
    X ((rectB o).toLoadRect.idx (ix2 p r)) = X (ix2 (⟨128 * o.val + p.val, by omega⟩ : Fin 1152) r) :=
  congrArg X (funext fun a => Fin.ext (by
    match a with
    | ⟨0, _⟩ => show 128 * o.val + 1 * p.val = 128 * o.val + p.val; omega
    | ⟨1, _⟩ => show 0 + 1 * r.val = r.val; omega))

theorem dsV_at (X : Vec Ideal S2x1024 .f32) (k : Fin 16) (u : Fin 1) (p : Fin 128) :
    dsV X k (ix2 u p) = X (ix2 (md 2 ((128 * k.val + p.val) / 1024)) (md 1024 (128 * k.val + p.val))) :=
  congrArg X (funext fun a => Fin.ext (by
    match a with
    | ⟨0, _⟩ => show k.val / 8 % 2 + 1 * u.val = (128 * k.val + p.val) / 1024 % 2; omega
    | ⟨1, _⟩ => show 128 * (k.val % 8) + 1 * p.val = (128 * k.val + p.val) % 1024; omega))

theorem dyV_at (X : Vec Ideal S1x512x1152 .fp8e5m2) (t : Fin 4) (o : Fin 9) (u : Fin 1) (p q : Fin 128) :
    dyV X t o (ix3 u p q) = X (ix3 u (⟨128 * t.val + p.val, by omega⟩ : Fin 512) (⟨128 * o.val + q.val, by omega⟩ : Fin 1152)) :=
  congrArg X (funext fun a => Fin.ext (by
    match a with
    | ⟨0, _⟩ => show 0 + 1 * u.val = u.val; omega
    | ⟨1, _⟩ => show 128 * t.val + 1 * p.val = 128 * t.val + p.val; omega
    | ⟨2, _⟩ => show 128 * o.val + 1 * q.val = 128 * o.val + q.val; omega))

theorem scaleV_at (t : Fin cfg0.N) (X : Vec Ideal S2048x128 .f32) (k : Fin 4) (p q : Fin 128) :
    scaleV (grid0.coords t) X k (ix2 p q) = X (ix2 (⟨512 * t.val + (128 * k.val + p.val), by have := N4 t; omega⟩ : Fin 2048) q) :=
  congrArg X (funext fun a => Fin.ext (by
    have h := k0_off1_eq (grid0.coords t) k
    rw [coords_val t] at h
    match a with
    | ⟨0, _⟩ =>
      have h0 : k0_off1 (grid0.coords t) (BitVec.ofNat 32 (128 * k.val)) 0 = 512 * t.val + 128 * k.val := congrFun h 0
      show k0_off1 (grid0.coords t) (BitVec.ofNat 32 (128 * k.val)) 0 + 1 * p.val = 512 * t.val + (128 * k.val + p.val); omega
    | ⟨1, _⟩ =>
      have h1 : k0_off1 (grid0.coords t) (BitVec.ofNat 32 (128 * k.val)) 1 = 0 := congrFun h 1
      show k0_off1 (grid0.coords t) (BitVec.ofNat 32 (128 * k.val)) 1 + 1 * q.val = q.val; omega))

/-! ## What is kept -/

/-- The five arrays kept from the first point on are what they should be: the combined weight, the divisors, the factors, the
    row scales as columns, and the second factor turned. -/
structure Carried (A : Dora.In) (vv : Vec Ideal S1152x3584 .bf16) (nn ff : Vec Ideal S1x1152 .f32) (dd : Vec Ideal S2048x128 .f32)
    (bb : Vec Ideal S64x1152 .bf16) : Prop where
  v : ∀ (o : Fin 1152) (i : Fin 3584), vv (ix2 o i) = Dora.v A o i
  n : ∀ (u : Fin 1) (o : Fin 1152), nn (ix2 u o) = Dora.nsafe A o
  fac : ∀ (u : Fin 1) (o : Fin 1152), ff (ix2 u o) = Dora.c A o
  dsc : ∀ (r : Fin 2048) (l : Fin 128), dd (ix2 r l) = A.ds (md 2 (r.val / 1024)) (md 1024 r.val)
  bt : ∀ (r : Fin 64) (o : Fin 1152), bb (ix2 r o) = A.b o r

section

variable (m : (ℓ : Loc nD τ sig) → Buf (Elt Ideal) ℓ) (c : Dev nD) (t : Fin cfg0.N)

/-- A tile of the combined weight, at an index. -/
theorem tile_at (o : Fin 9) (i : Fin 28) (p q : Fin 128) :
    wV (iblk m c 1 t) o i (ix2 p q) * scV (iblk m c 2 t) o (ix2 p q)
      + baV (iblk m c 3 t) (iblk m c 4 t) o (ix2 p (⟨128 * i.val + q.val, by omega⟩ : Fin 3584))
    = Dora.v (args m c) ⟨128 * o.val + p.val, by omega⟩ ⟨128 * i.val + q.val, by omega⟩ := by
  unfold scV baV
  rw [wV_at, pay8_at, rowV_at, pay9_at, blk_w m c t, blk_ws m c t]
  unfold Dora.v
  refine congrArg _ (Finset.sum_congr rfl fun r _ => ?_)
  exact congrArg₂ (· * ·) ((rowsB_at (iblk m c 4 t) o p r).trans (blk_b m c t _ r)) (blk_a m c t r _)

/-- The norms of a block's rows. -/
theorem sq_at (o : Fin 9) (l : Fin 128) : ∑ x : Fin 128, sqArr m c t o (ix2 l x)
    = ∑ i : Fin 3584, Dora.v (args m c) ⟨128 * o.val + l.val, by omega⟩ i * Dora.v (args m c) ⟨128 * o.val + l.val, by omega⟩ i := by
  rw [← sum_lanes]
  refine Finset.sum_congr rfl fun x _ => ?_
  refine (sqAcc_at _ _ _ l x 28).trans (Finset.sum_congr rfl fun i _ => ?_)
  rw [vTile_at, tile_at m c t]

/-- What the first point builds is what is to be kept. -/
theorem carried_A : Carried (args m c) (vArr m c t) (nArr m c t) (facArr m c t) (dscArr m c t) (k0_pay7 (F := Ideal) (iblk m c 4 t)) where
  v o i := canon_v _ _ _ (Dora.v (args m c)) (tile_at m c t) (ix2 o i)
  n u o := canon_row _ (Dora.nsafe (args m c)) (fun o u q => by
    rw [nStore_at, sq_at m c t]; rfl) (ix2 u o)
  fac u o := canon_row _ (Dora.c (args m c)) (fun o u q => by
    rw [cStore_at, sq_at m c t, rowV_at, blk_m m c t]; rfl) (ix2 u o)
  dsc r l := canon_dsc _ (fun r => (args m c).ds (md 2 (r.val / 1024)) (md 1024 r.val)) (fun k p => by
    rw [dsV_at, blk_ds m c t]) (ix2 r l)
  bt r o := by rw [pay7_at, blk_b m c t]

variable {vv : Vec Ideal S1152x3584 .bf16} {nn ff : Vec Ideal S1x1152 .f32} {dd : Vec Ideal S2048x128 .f32} {bb : Vec Ideal S64x1152 .bf16}

/-! ## What a point computes over it -/

/-- The scaled gradient in a tile. -/
theorem dy_at (h : Carried (args m c) vv nn ff dd bb) (k : Fin 4) (o : Fin 9) (p q : Fin 128) :
    dyV (iblk m c 6 t) k o (ix3 (0 : Fin 1) p q) * scaleV (grid0.coords t) dd k (ix2 p q)
      = Dora.dyf (args m c) (bt t) (st t ⟨128 * k.val + p.val, by omega⟩) ⟨128 * o.val + q.val, by omega⟩ := by
  have hN := N4 t
  rw [dyV_at, blk_dy m c t, scaleV_at, h.dsc]
  unfold Dora.dyf
  refine congrArg _ (congrArg₂ (args m c).ds (Fin.ext ?_) (Fin.ext ?_))
  · show (512 * t.val + (128 * k.val + p.val)) / 1024 % 2 = t.val / 2 % 2; omega
  · show (512 * t.val + (128 * k.val + p.val)) % 1024 = 512 * (t.val % 2) + (128 * k.val + p.val); omega

/-- The gradient a point builds. -/
theorem g_at (h : Carried (args m c) vv nn ff dd bb) (p : Fin 512) (o : Fin 1152) :
    gVec (grid0.coords t) dd (iblk m c 6 t) ff (ix2 p o) = Dora.g (args m c) (bt t) (st t p) o :=
  canon_g _ _ _ (fun p o => Dora.g (args m c) (bt t) (st t p) o) (fun k o p q => by
    rw [dy_at m c t h, rowV_at, h.fac]; rfl) (ix2 p o)

theorem dxBlk (h : Carried (args m c) vv nn ff dd bb) (u : Fin 1) (p : Fin 512) (i : Fin 3584) :
    k0_pay812 (gVec (grid0.coords t) dd (iblk m c 6 t) ff) vv (ix3 u p i) = Dora.dx (args m c) (bt t) (st t p) i := by
  rw [pay812_at]
  exact Finset.sum_congr rfl fun o _ => by rw [g_at m c t h, h.v]

theorem zBlk (h : Carried (args m c) vv nn ff dd bb) (p : Fin 512) (o : Fin 1152) :
    k0_pay686 (F := Ideal) (iblk m c 0 t) vv (ix2 p o) = Dora.z (args m c) (bt t) (st t p) o := by
  rw [pay686_at]
  exact Finset.sum_congr rfl fun i _ => by rw [blk_x m c t, h.v]

theorem zStore (h : Carried (args m c) vv nn ff dd bb) (u : Fin 1) (p : Fin 512) (o : Fin 1152) :
    k0_pay688 (F := Ideal) (iblk m c 0 t) vv (ix3 u p o) = Dora.z (args m c) (bt t) (st t p) o := by
  rw [pay688_at]
  exact Finset.sum_congr rfl fun i _ => by rw [blk_x m c t, h.v]

theorem xaBlk (p : Fin 512) (r : Fin 64) :
    k0_pay687 (F := Ideal) (iblk m c 0 t) (iblk m c 3 t) (ix2 p r) = Dora.xa (args m c) (bt t) (st t p) r := by
  rw [pay687_at]
  exact Finset.sum_congr rfl fun i _ => by rw [blk_x m c t, blk_a m c t]

theorem xaStore (u : Fin 1) (p : Fin 512) (r : Fin 64) :
    k0_pay689 (F := Ideal) (iblk m c 0 t) (iblk m c 3 t) (ix3 u p r) = Dora.xa (args m c) (bt t) (st t p) r := by
  rw [pay689_at]
  exact Finset.sum_congr rfl fun i _ => by rw [blk_x m c t, blk_a m c t]

theorem gbBlk (h : Carried (args m c) vv nn ff dd bb) (r : Fin 64) (p : Fin 512) :
    k0_pay813 (gVec (grid0.coords t) dd (iblk m c 6 t) ff) bb (ix2 r p) = Dora.gb (args m c) (bt t) (st t p) r := by
  rw [pay813_at]
  exact Finset.sum_congr rfl fun o _ => by rw [g_at m c t h, h.bt, mul_comm]

theorem gbStore (h : Carried (args m c) vv nn ff dd bb) (u : Fin 1) (p : Fin 512) (r : Fin 64) :
    k0_pay1 (k0_pay814 (gVec (grid0.coords t) dd (iblk m c 6 t) ff) bb) (ix3 u p r) = Dora.gb (args m c) (bt t) (st t p) r := by
  rw [pay1_at, pay814_at]
  exact Finset.sum_congr rfl fun o _ => by rw [g_at m c t h, h.bt, mul_comm]

/-- What point `n` adds to the first factor's gradient. -/
def daPart (A : Dora.In) (n : ℕ) (r : Fin 64) (i : Fin 3584) : EReal :=
  ∑ p : Fin 512, Dora.gb A (bt n) (st n p) r * A.x (bt n) (st n p) i

/-- What point `n` adds to the second factor's gradient. -/
def dbPart (A : Dora.In) (n : ℕ) (o : Fin 1152) (r : Fin 64) : EReal :=
  ∑ p : Fin 512, Dora.g A (bt n) (st n p) o * Dora.xa A (bt n) (st n p) r

/-- What point `n` adds to partial sum `q` of the magnitudes' gradient. -/
def dmRow (A : Dora.In) (n : ℕ) (q : Fin 8) (o : Fin 1152) : EReal :=
  ∑ k : Fin 4, ∑ u : Fin 16, Dora.dyf A (bt n) (st n ⟨128 * k.val + (u.val * 8 + q.val), by omega⟩) o
    * Dora.z A (bt n) (st n ⟨128 * k.val + (u.val * 8 + q.val), by omega⟩) o

theorem daStep (h : Carried (args m c) vv nn ff dd bb) (old : Vec Ideal S64x3584 .f32) (r : Fin 64) (i : Fin 3584) :
    k0_pay2 (k0_pay685 (F := Ideal) (iblk m c 0 t)) (k0_pay813 (gVec (grid0.coords t) dd (iblk m c 6 t) ff) bb) old (ix2 r i)
      = old (ix2 r i) + daPart (args m c) t r i := by
  rw [pay2_at]
  exact congrArg _ (Finset.sum_congr rfl fun p _ => by rw [gbBlk m c t h, pay685_at, blk_x m c t])

theorem dbStep (h : Carried (args m c) vv nn ff dd bb) (old : Vec Ideal S64x1152 .f32) (r : Fin 64) (o : Fin 1152) :
    k0_pay3 (k0_pay687 (F := Ideal) (iblk m c 0 t) (iblk m c 3 t)) (gVec (grid0.coords t) dd (iblk m c 6 t) ff) old (ix2 r o)
      = old (ix2 r o) + dbPart (args m c) t o r := by
  rw [pay3_at]
  exact congrArg _ (Finset.sum_congr rfl fun p _ => by rw [xaBlk m c t, g_at m c t h, mul_comm])

theorem dmStep (h : Carried (args m c) vv nn ff dd bb) (o : Fin 9) (q : Fin 8) (l : Fin 128) :
    ∑ k : Fin 4, dmPart (k0_pay686 (F := Ideal) (iblk m c 0 t) vv) (scaleV (grid0.coords t) dd) (dyV (iblk m c 6 t)) o q l k
      = dmRow (args m c) t q ⟨128 * o.val + l.val, by omega⟩ :=
  Finset.sum_congr rfl fun k _ => Finset.sum_congr rfl fun u _ => by
    rw [dy_at m c t h, zBlk m c t h]

end

end Cert.KernelIdeal.Tiles

end
-- ==== Proof.StepADm.lean ====
/-
  The partial sums of the magnitudes' gradient that the first grid point leaves.
-/
module

public import proofs.«01_k».proof.Proof.StepA

@[expose] public section

set_option maxRecDepth 16384

noncomputable section

open Idealize.ShloMosaic Idealize.ShloMosaic.TcCoe Cert.KernelIdeal.Gen

namespace Cert.KernelIdeal.Tiles

/-- Over partial sums just cleared, over products, scales and gradients that are equal to given ones. -/
theorem dm_cleared_of (a : Memref sig .tc .vmem S8x1152 .f32) (X : Vec Ideal S8x1152 .f32)
    {z z' : FVec Ideal S512x1152 .f32} (hz : z = z') {S S' : Fin 4 → Vec Ideal S128x128 .f32} (hS : S = S')
    {D D' : Fin 4 → Fin 9 → Vec Ideal S1x128x128 .fp8e5m2} (hD : D = D') (o : Fin 9) (q : Fin 8) (l : Fin 128) :
    View.canon (dmStack [⟨Rect.unit ![0, 0] S8x1152.size inb_S8x1152_S8x1152_0_0, X⟩]
        (fun k L => a.view.readCov L (rectDm (md 9 k)).toLoadRect) z S D 36) (dmIdx o q l)
      = X (dmIdx o q l) + ∑ t : Fin 4, dmPart z' S' D' o q l t := by
  subst hz hS hD; exact dm_cleared a X z S D o q l

variable (m : (ℓ : Loc nD τ sig) → Buf (Elt Ideal) ℓ) (c : Dev nD)

section

variable (t : Fin cfg0.N)

/-- The product the first grid point computes, as the run names it. -/
abbrev zA : FVec Ideal S512x1152 .f32 :=
  kernelRun0_A.sl.r_178 (F := Ideal) c (ms0_0 t) (hs0_0 t) (ms0_1 t) (hs0_1 t) (ms0_2 t) (hs0_2 t) (ms0_3 t) (hs0_3 t) (ms0_4 t) (hs0_4 t)
    scM0_0 (iblk m c 0 t) (iblk m c 1 t) (iblk m c 2 t) (iblk m c 3 t) (iblk m c 4 t)

theorem zA_eq : zA m c t = k0_pay686 (iblk m c 0 t) (vArr m c t) :=
  congrArg₂ (k0_pay686 (F := Ideal)) ((holds_unread (ms0_0 t) (hs0_0 t) (iblk m c 0 t)).whole zeros3 inb_S1x512x3584_S1x512x3584_0_0_0)
    (readV m c t scM0_0)

/-- The row scales' blocks the first grid point loads, as the run names them. -/
abbrev scaleA : Fin 4 → Vec Ideal S128x128 .f32 :=
  scaleR (grid0.coords t) scM0_3 (scM0_3.view.writes (Elt Ideal) scM0_3.view.junk
    (kernelRun0_A.sl.HS3_16 (F := Ideal) c (ms0_7 t) (hs0_7 t) (iblk m c 7 t)))

theorem scaleA_eq : scaleA m c t = scaleV (grid0.coords t) (dscArr m c t) :=
  scaleR_eq (grid0.coords t) (holdsDsc m c t scM0_3)

/-- The gradient's blocks the first grid point loads. -/
abbrev dyA : Fin 4 → Fin 9 → Vec Ideal S1x128x128 .fp8e5m2 := dyR (ms0_6 t) ((hs0_6 t).unread (iblk m c 6 t))

theorem dyA_eq : dyA m c t = dyV (iblk m c 6 t) := dyR_eq (holds_unread (ms0_6 t) (hs0_6 t) (iblk m c 6 t))

/-- The stores the first grid point makes into the partial sums. -/
abbrev stackA : List (View.Piece (Elt Ideal) S8x1152 .f32) :=
  dmStack (kernelRun0_A.sl.HS8_1 (F := Ideal)) (fun k L => scM0_8.view.readCov L (rectDm (md 9 k)).toLoadRect)
    (zA m c t) (scaleA m c t) (dyA m c t) 36

theorem stackA_at (o : Fin 9) (q : Fin 8) (l : Fin 128) : View.canon (stackA m c t) (dmIdx o q l)
    = k0_pay684 (F := Ideal) (dmIdx o q l) + ∑ k : Fin 4, dmPart (k0_pay686 (iblk m c 0 t) (vArr m c t))
      (scaleV (grid0.coords t) (dscArr m c t)) (dyV (iblk m c 6 t)) o q l k :=
  dm_cleared_of scM0_8 (k0_pay684 (F := Ideal)) (zA_eq m c t) (scaleA_eq m c t) (dyA_eq m c t) o q l

theorem dmAcc_A (h0 : t.val % 4 = 0) (h1 : ¬ t.val % 4 = 3) (o : Fin 9) (q : Fin 8) (l : Fin 128) :
    (outsAt0 (F := Ideal) m c t.val t.isLt).2.2.2.2.2.2.2.2.2.2.2.2.2.2 (dmIdx o q l)
      = k0_pay684 (F := Ideal) (dmIdx o q l) + ∑ k : Fin 4, dmPart (k0_pay686 (iblk m c 0 t) (vArr m c t))
        (scaleV (grid0.coords t) (dscArr m c t)) (dyV (iblk m c 6 t)) o q l k := by
  rw [outsAt0_A m c t h0 h1]; dsimp only; unfold sout0_A_8
  rw [View.read_writes_junk_eq_canon]
  refine Eq.trans ?_ (stackA_at m c t o q l)
  refine congrArg (fun L => View.canon L (dmIdx o q l)) ?_
  rfl

end

end Cert.KernelIdeal.Tiles

end
-- ==== Proof.StepB.lean ====
/-
  What a middle grid point leaves: each output block and each accumulator as one computation of the point's blocks and of
  what the point before left.
-/
module

public import proofs.«01_k».proof.Proof.Reads
public import proofs.«01_k».proof.Proof.Gen.KernelIdeal.Frame

@[expose] public section

set_option maxRecDepth 16384

noncomputable section

open Idealize.ShloMosaic Idealize.ShloMosaic.TcCoe Cert.KernelIdeal.Gen

namespace Cert.KernelIdeal.Tiles

variable (m : (ℓ : Loc nD τ sig) → Buf (Elt Ideal) ℓ) (c : Dev nD)

/-- What the point before a point left: outputs, then carried buffers. -/
abbrev prev (t : Fin cfg0.N) := outsAt0 (F := Ideal) m c (t.val - 1) (Nat.lt_of_le_of_lt (Nat.sub_le _ _) t.isLt)

/-- The gradient a point builds over the factors and scales it found. -/
abbrev gAt (t : Fin cfg0.N) : Vec Ideal S512x1152 .bf16 :=
  gVec (grid0.coords t) (prev m c t).2.2.2.2.2.2.2.2.2.2.1 (iblk m c 6 t) (prev m c t).2.2.2.2.2.2.2.2.2.1

section

variable (t : Fin cfg0.N) (h0 : ¬ t.val % 4 = 0) (h1 : ¬ t.val % 4 = 3)
include h0 h1

/-- The gradient with respect to the activations: the point's gradient times the weight. -/
theorem dx_B : (outsAt0 (F := Ideal) m c t.val t.isLt).1 = k0_pay812 (gAt m c t) (prev m c t).2.2.2.2.2.2.2.1 := by
  rw [outsAt0_B m c t h0 h1]; dsimp only; unfold out0_B_8
  rw [View.read_writes_junk_eq_canon]
  refine (View.canon_cons_unit_zero zeros3 _ _ []).trans ?_
  exact congrArg₂ k0_pay812 (readCov_g (grid0.coords t) scM0_4 (holds_unread scM0_3 (Memref.isWhole_whole _) _)
    (holds_unread (ms0_6 t) (hs0_6 t) _) (holds_unread scM0_2 (Memref.isWhole_whole _) _))
    ((holds_unread scM0_0 (Memref.isWhole_whole _) _).whole zeros2 _)

/-- The product: activations times weight. -/
theorem z_B : (outsAt0 (F := Ideal) m c t.val t.isLt).2.2.2.2.1 = k0_pay688 (iblk m c 0 t) (prev m c t).2.2.2.2.2.2.2.1 := by
  rw [outsAt0_B m c t h0 h1]; dsimp only; unfold out0_B_12
  rw [View.read_writes_junk_eq_canon]
  refine (View.canon_cons_unit_zero zeros3 _ _ []).trans ?_
  exact congrArg₂ k0_pay688 ((holds_unread (ms0_0 t) (hs0_0 t) _).whole zeros3 _) ((holds_unread scM0_0 (Memref.isWhole_whole _) _).whole zeros2 _)

/-- The activations projected by the first factor. -/
theorem xa_B : (outsAt0 (F := Ideal) m c t.val t.isLt).2.2.2.2.2.1 = k0_pay689 (iblk m c 0 t) (iblk m c 3 t) := by
  rw [outsAt0_B m c t h0 h1]; dsimp only; unfold out0_B_13
  rw [View.read_writes_junk_eq_canon]
  refine (View.canon_cons_unit_zero zeros3 _ _ []).trans ?_
  exact congrArg₂ k0_pay689 ((holds_unread (ms0_0 t) (hs0_0 t) _).whole zeros3 _) ((holds_unread (ms0_3 t) (hs0_3 t) _).whole zeros2 _)

/-- The gradient projected by the second factor. -/
theorem gb_B : (outsAt0 (F := Ideal) m c t.val t.isLt).2.2.2.2.2.2.1 = k0_pay1 (k0_pay814 (gAt m c t) (prev m c t).2.2.2.2.2.2.2.2.2.2.2.1) := by
  rw [outsAt0_B m c t h0 h1]; dsimp only; unfold out0_B_14
  rw [View.read_writes_junk_eq_canon]
  refine (View.canon_cons_unit_zero zeros3 _ _ []).trans ?_
  exact congrArg k0_pay1 (congrArg₂ k0_pay814 (readCov_g (grid0.coords t) scM0_4 (holds_unread scM0_3 (Memref.isWhole_whole _) _)
    (holds_unread (ms0_6 t) (hs0_6 t) _) (holds_unread scM0_2 (Memref.isWhole_whole _) _)) ((holds_unread scM0_5 (Memref.isWhole_whole _) _).whole zeros2 _))

/-- The first factor's accumulated gradient: what was there plus the point's product. -/
theorem daAcc_B : (outsAt0 (F := Ideal) m c t.val t.isLt).2.2.2.2.2.2.2.2.2.2.2.2.1 = k0_pay2 (k0_pay685 (iblk m c 0 t)) (k0_pay813 (gAt m c t) (prev m c t).2.2.2.2.2.2.2.2.2.2.2.1) (prev m c t).2.2.2.2.2.2.2.2.2.2.2.2.1 := by
  rw [outsAt0_B m c t h0 h1]; dsimp only; unfold sout0_B_6
  rw [View.read_writes_junk_eq_canon]
  refine (View.canon_cons_unit_zero zeros2 _ _ []).trans ?_
  exact congr (congrArg₂ k0_pay2 (congrArg k0_pay685 ((holds_unread (ms0_0 t) (hs0_0 t) _).whole zeros3 _)) (congrArg₂ k0_pay813 (readCov_g (grid0.coords t) scM0_4 (holds_unread scM0_3 (Memref.isWhole_whole _) _)
    (holds_unread (ms0_6 t) (hs0_6 t) _) (holds_unread scM0_2 (Memref.isWhole_whole _) _)) ((holds_unread scM0_5 (Memref.isWhole_whole _) _).whole zeros2 _))) ((holds_unread scM0_6 (Memref.isWhole_whole _) _).whole zeros2 _)

/-- The second factor's accumulated gradient, turned. -/
theorem dbAcc_B : (outsAt0 (F := Ideal) m c t.val t.isLt).2.2.2.2.2.2.2.2.2.2.2.2.2.1 = k0_pay3 (k0_pay687 (iblk m c 0 t) (iblk m c 3 t)) (gAt m c t) (prev m c t).2.2.2.2.2.2.2.2.2.2.2.2.2.1 := by
  rw [outsAt0_B m c t h0 h1]; dsimp only; unfold sout0_B_7
  rw [View.read_writes_junk_eq_canon]
  refine (View.canon_cons_unit_zero zeros2 _ _ []).trans ?_
  exact congr (congrArg₂ k0_pay3 (congrArg₂ k0_pay687 ((holds_unread (ms0_0 t) (hs0_0 t) _).whole zeros3 _) ((holds_unread (ms0_3 t) (hs0_3 t) _).whole zeros2 _)) (readCov_g (grid0.coords t) scM0_4 (holds_unread scM0_3 (Memref.isWhole_whole _) _)
    (holds_unread (ms0_6 t) (hs0_6 t) _) (holds_unread scM0_2 (Memref.isWhole_whole _) _))) ((holds_unread scM0_7 (Memref.isWhole_whole _) _).whole zeros2 _)

/-- The partial sums: what was there plus the products of the point's four row blocks. -/
theorem dmAcc_B (o : Fin 9) (q : Fin 8) (l : Fin 128) : (outsAt0 (F := Ideal) m c t.val t.isLt).2.2.2.2.2.2.2.2.2.2.2.2.2.2 (dmIdx o q l)
    = (prev m c t).2.2.2.2.2.2.2.2.2.2.2.2.2.2 (dmIdx o q l) + ∑ k : Fin 4, dmPart (k0_pay686 (iblk m c 0 t) (prev m c t).2.2.2.2.2.2.2.1)
      (scaleV (grid0.coords t) (prev m c t).2.2.2.2.2.2.2.2.2.2.1) (dyV (iblk m c 6 t)) o q l k := by
  rw [outsAt0_B m c t h0 h1]; dsimp only; unfold sout0_B_8
  rw [View.read_writes_junk_eq_canon]
  refine Eq.trans (dm_found (a := scM0_8) (f := (Memref.isWhole_whole _).unread (prev m c t).2.2.2.2.2.2.2.2.2.2.2.2.2.2) (holds_unread scM0_8 (Memref.isWhole_whole _) _) _ (scaleR (grid0.coords t) scM0_3 _) (dyR (ms0_6 t) _) o q l)
    (congrArg ((prev m c t).2.2.2.2.2.2.2.2.2.2.2.2.2.2 (dmIdx o q l) + ·) (Finset.sum_congr rfl fun k _ => ?_))
  rw [scaleR_eq (grid0.coords t) (holds_unread scM0_3 (Memref.isWhole_whole _) _), dyR_eq (holds_unread (ms0_6 t) (hs0_6 t) _)]
  exact congrArg (fun z => dmPart z _ _ o q l k) (congrArg₂ k0_pay686 ((holds_unread (ms0_0 t) (hs0_0 t) _).whole zeros3 _) ((holds_unread scM0_0 (Memref.isWhole_whole _) _).whole zeros2 _))

theorem v_B : (outsAt0 (F := Ideal) m c t.val t.isLt).2.2.2.2.2.2.2.1 = (prev m c t).2.2.2.2.2.2.2.1 := by
  rw [outsAt0_B m c t h0 h1]
  first | done | rfl | (dsimp only; unfold sout0_B_0; rfl)

theorem n_B : (outsAt0 (F := Ideal) m c t.val t.isLt).2.2.2.2.2.2.2.2.1 = (prev m c t).2.2.2.2.2.2.2.2.1 := by
  rw [outsAt0_B m c t h0 h1]
  first | done | rfl | (dsimp only; unfold sout0_B_1; rfl)

theorem fac_B : (outsAt0 (F := Ideal) m c t.val t.isLt).2.2.2.2.2.2.2.2.2.1 = (prev m c t).2.2.2.2.2.2.2.2.2.1 := by
  rw [outsAt0_B m c t h0 h1]
  first | done | rfl | (dsimp only; unfold sout0_B_2; rfl)

theorem dsc_B : (outsAt0 (F := Ideal) m c t.val t.isLt).2.2.2.2.2.2.2.2.2.2.1 = (prev m c t).2.2.2.2.2.2.2.2.2.2.1 := by
  rw [outsAt0_B m c t h0 h1]
  first | done | rfl | (dsimp only; unfold sout0_B_3; rfl)

theorem bt_B : (outsAt0 (F := Ideal) m c t.val t.isLt).2.2.2.2.2.2.2.2.2.2.2.1 = (prev m c t).2.2.2.2.2.2.2.2.2.2.2.1 := by
  rw [outsAt0_B m c t h0 h1]
  first | done | rfl | (dsimp only; unfold sout0_B_5; rfl)

end

end Cert.KernelIdeal.Tiles

end
-- ==== Proof.StepC.lean ====
/-
  What the last grid point leaves: what a middle one does, and the three gradients that were accumulated.
-/
module

public import proofs.«01_k».proof.Proof.StepB

@[expose] public section

set_option maxRecDepth 16384

noncomputable section

open Idealize.ShloMosaic Idealize.ShloMosaic.TcCoe Cert.KernelIdeal.Gen

namespace Cert.KernelIdeal.Tiles

variable (m : (ℓ : Loc nD τ sig) → Buf (Elt Ideal) ℓ) (c : Dev nD)

section

variable (t : Fin cfg0.N) (h0 : ¬ t.val % 4 = 0) (h1 : t.val % 4 = 3)
include h0 h1

/-- The gradient with respect to the activations: the point's gradient times the weight. -/
theorem dx_C : (outsAt0 (F := Ideal) m c t.val t.isLt).1 = k0_pay812 (gAt m c t) (prev m c t).2.2.2.2.2.2.2.1 := by
  rw [outsAt0_C m c t h0 h1]; dsimp only; unfold out0_C_8
  rw [View.read_writes_junk_eq_canon]
  refine (View.canon_cons_unit_zero zeros3 _ _ []).trans ?_
  exact congrArg₂ k0_pay812 (readCov_g (grid0.coords t) scM0_4 (holds_unread scM0_3 (Memref.isWhole_whole _) _)
    (holds_unread (ms0_6 t) (hs0_6 t) _) (holds_unread scM0_2 (Memref.isWhole_whole _) _))
    ((holds_unread scM0_0 (Memref.isWhole_whole _) _).whole zeros2 _)

/-- The product: activations times weight. -/
theorem z_C : (outsAt0 (F := Ideal) m c t.val t.isLt).2.2.2.2.1 = k0_pay688 (iblk m c 0 t) (prev m c t).2.2.2.2.2.2.2.1 := by
  rw [outsAt0_C m c t h0 h1]; dsimp only; unfold out0_C_12
  rw [View.read_writes_junk_eq_canon]
  refine (View.canon_cons_unit_zero zeros3 _ _ []).trans ?_
  exact congrArg₂ k0_pay688 ((holds_unread (ms0_0 t) (hs0_0 t) _).whole zeros3 _) ((holds_unread scM0_0 (Memref.isWhole_whole _) _).whole zeros2 _)

/-- The activations projected by the first factor. -/
theorem xa_C : (outsAt0 (F := Ideal) m c t.val t.isLt).2.2.2.2.2.1 = k0_pay689 (iblk m c 0 t) (iblk m c 3 t) := by
  rw [outsAt0_C m c t h0 h1]; dsimp only; unfold out0_C_13
  rw [View.read_writes_junk_eq_canon]
  refine (View.canon_cons_unit_zero zeros3 _ _ []).trans ?_
  exact congrArg₂ k0_pay689 ((holds_unread (ms0_0 t) (hs0_0 t) _).whole zeros3 _) ((holds_unread (ms0_3 t) (hs0_3 t) _).whole zeros2 _)

/-- The gradient projected by the second factor. -/
theorem gb_C : (outsAt0 (F := Ideal) m c t.val t.isLt).2.2.2.2.2.2.1 = k0_pay1 (k0_pay814 (gAt m c t) (prev m c t).2.2.2.2.2.2.2.2.2.2.2.1) := by
  rw [outsAt0_C m c t h0 h1]; dsimp only; unfold out0_C_14
  rw [View.read_writes_junk_eq_canon]
  refine (View.canon_cons_unit_zero zeros3 _ _ []).trans ?_
  exact congrArg k0_pay1 (congrArg₂ k0_pay814 (readCov_g (grid0.coords t) scM0_4 (holds_unread scM0_3 (Memref.isWhole_whole _) _)
    (holds_unread (ms0_6 t) (hs0_6 t) _) (holds_unread scM0_2 (Memref.isWhole_whole _) _)) ((holds_unread scM0_5 (Memref.isWhole_whole _) _).whole zeros2 _))

/-- The first factor's accumulated gradient: what was there plus the point's product. -/
theorem daAcc_C : (outsAt0 (F := Ideal) m c t.val t.isLt).2.2.2.2.2.2.2.2.2.2.2.2.1 = k0_pay2 (k0_pay685 (iblk m c 0 t)) (k0_pay813 (gAt m c t) (prev m c t).2.2.2.2.2.2.2.2.2.2.2.1) (prev m c t).2.2.2.2.2.2.2.2.2.2.2.2.1 := by
  rw [outsAt0_C m c t h0 h1]; dsimp only; unfold sout0_C_6
  rw [View.read_writes_junk_eq_canon]
  refine (View.canon_cons_unit_zero zeros2 _ _ []).trans ?_
  exact congr (congrArg₂ k0_pay2 (congrArg k0_pay685 ((holds_unread (ms0_0 t) (hs0_0 t) _).whole zeros3 _)) (congrArg₂ k0_pay813 (readCov_g (grid0.coords t) scM0_4 (holds_unread scM0_3 (Memref.isWhole_whole _) _)
    (holds_unread (ms0_6 t) (hs0_6 t) _) (holds_unread scM0_2 (Memref.isWhole_whole _) _)) ((holds_unread scM0_5 (Memref.isWhole_whole _) _).whole zeros2 _))) ((holds_unread scM0_6 (Memref.isWhole_whole _) _).whole zeros2 _)

/-- The second factor's accumulated gradient, turned. -/
theorem dbAcc_C : (outsAt0 (F := Ideal) m c t.val t.isLt).2.2.2.2.2.2.2.2.2.2.2.2.2.1 = k0_pay3 (k0_pay687 (iblk m c 0 t) (iblk m c 3 t)) (gAt m c t) (prev m c t).2.2.2.2.2.2.2.2.2.2.2.2.2.1 := by
  rw [outsAt0_C m c t h0 h1]; dsimp only; unfold sout0_C_7
  rw [View.read_writes_junk_eq_canon]
  refine (View.canon_cons_unit_zero zeros2 _ _ []).trans ?_
  exact congr (congrArg₂ k0_pay3 (congrArg₂ k0_pay687 ((holds_unread (ms0_0 t) (hs0_0 t) _).whole zeros3 _) ((holds_unread (ms0_3 t) (hs0_3 t) _).whole zeros2 _)) (readCov_g (grid0.coords t) scM0_4 (holds_unread scM0_3 (Memref.isWhole_whole _) _)
    (holds_unread (ms0_6 t) (hs0_6 t) _) (holds_unread scM0_2 (Memref.isWhole_whole _) _))) ((holds_unread scM0_7 (Memref.isWhole_whole _) _).whole zeros2 _)

/-- The partial sums: what was there plus the products of the point's four row blocks. -/
theorem dmAcc_C (o : Fin 9) (q : Fin 8) (l : Fin 128) : (outsAt0 (F := Ideal) m c t.val t.isLt).2.2.2.2.2.2.2.2.2.2.2.2.2.2 (dmIdx o q l)
    = (prev m c t).2.2.2.2.2.2.2.2.2.2.2.2.2.2 (dmIdx o q l) + ∑ k : Fin 4, dmPart (k0_pay686 (iblk m c 0 t) (prev m c t).2.2.2.2.2.2.2.1)
      (scaleV (grid0.coords t) (prev m c t).2.2.2.2.2.2.2.2.2.2.1) (dyV (iblk m c 6 t)) o q l k := by
  rw [outsAt0_C m c t h0 h1]; dsimp only; unfold sout0_C_8
  rw [View.read_writes_junk_eq_canon]
  refine Eq.trans (dm_found (a := scM0_8) (f := (Memref.isWhole_whole _).unread (prev m c t).2.2.2.2.2.2.2.2.2.2.2.2.2.2) (holds_unread scM0_8 (Memref.isWhole_whole _) _) _ (scaleR (grid0.coords t) scM0_3 _) (dyR (ms0_6 t) _) o q l)
    (congrArg ((prev m c t).2.2.2.2.2.2.2.2.2.2.2.2.2.2 (dmIdx o q l) + ·) (Finset.sum_congr rfl fun k _ => ?_))
  rw [scaleR_eq (grid0.coords t) (holds_unread scM0_3 (Memref.isWhole_whole _) _), dyR_eq (holds_unread (ms0_6 t) (hs0_6 t) _)]
  exact congrArg (fun z => dmPart z _ _ o q l k) (congrArg₂ k0_pay686 ((holds_unread (ms0_0 t) (hs0_0 t) _).whole zeros3 _) ((holds_unread scM0_0 (Memref.isWhole_whole _) _).whole zeros2 _))

theorem v_C : (outsAt0 (F := Ideal) m c t.val t.isLt).2.2.2.2.2.2.2.1 = (prev m c t).2.2.2.2.2.2.2.1 := by
  rw [outsAt0_C m c t h0 h1]
  first | done | rfl | (dsimp only; unfold sout0_C_0; rfl)

theorem n_C : (outsAt0 (F := Ideal) m c t.val t.isLt).2.2.2.2.2.2.2.2.1 = (prev m c t).2.2.2.2.2.2.2.2.1 := by
  rw [outsAt0_C m c t h0 h1]
  first | done | rfl | (dsimp only; unfold sout0_C_1; rfl)

theorem fac_C : (outsAt0 (F := Ideal) m c t.val t.isLt).2.2.2.2.2.2.2.2.2.1 = (prev m c t).2.2.2.2.2.2.2.2.2.1 := by
  rw [outsAt0_C m c t h0 h1]
  first | done | rfl | (dsimp only; unfold sout0_C_2; rfl)

theorem dsc_C : (outsAt0 (F := Ideal) m c t.val t.isLt).2.2.2.2.2.2.2.2.2.2.1 = (prev m c t).2.2.2.2.2.2.2.2.2.2.1 := by
  rw [outsAt0_C m c t h0 h1]
  first | done | rfl | (dsimp only; unfold sout0_C_3; rfl)

theorem bt_C : (outsAt0 (F := Ideal) m c t.val t.isLt).2.2.2.2.2.2.2.2.2.2.2.1 = (prev m c t).2.2.2.2.2.2.2.2.2.2.2.1 := by
  rw [outsAt0_C m c t h0 h1]
  first | done | rfl | (dsimp only; unfold sout0_C_5; rfl)

/-- The first factor's gradient is its accumulator, as the last point leaves it. -/
theorem da_C : (outsAt0 (F := Ideal) m c t.val t.isLt).2.1 = k0_pay4 (outsAt0 (F := Ideal) m c t.val t.isLt).2.2.2.2.2.2.2.2.2.2.2.2.1 := by
  rw [daAcc_C m c t h0 h1, outsAt0_C m c t h0 h1]; dsimp only; unfold out0_C_9
  rw [View.read_writes_junk_eq_canon]
  refine (View.canon_cons_unit_zero zeros2 _ _ []).trans (congrArg k0_pay4 ?_)
  refine ((holds_writes scM0_6 _).whole zeros2 _).trans ((View.canon_cons_unit_zero zeros2 _ _ []).trans ?_)
  exact congr (congrArg₂ k0_pay2 (congrArg k0_pay685 ((holds_unread (ms0_0 t) (hs0_0 t) _).whole zeros3 _)) (congrArg₂ k0_pay813 (readCov_g (grid0.coords t) scM0_4 (holds_unread scM0_3 (Memref.isWhole_whole _) _)
    (holds_unread (ms0_6 t) (hs0_6 t) _) (holds_unread scM0_2 (Memref.isWhole_whole _) _)) ((holds_unread scM0_5 (Memref.isWhole_whole _) _).whole zeros2 _))) ((holds_unread scM0_6 (Memref.isWhole_whole _) _).whole zeros2 _)

/-- The second factor's gradient is its accumulator turned back. -/
theorem db_C : (outsAt0 (F := Ideal) m c t.val t.isLt).2.2.1 = k0_pay5 (outsAt0 (F := Ideal) m c t.val t.isLt).2.2.2.2.2.2.2.2.2.2.2.2.2.1 := by
  rw [dbAcc_C m c t h0 h1, outsAt0_C m c t h0 h1]; dsimp only; unfold out0_C_10
  rw [View.read_writes_junk_eq_canon]
  refine (View.canon_cons_unit_zero zeros2 _ _ []).trans (congrArg k0_pay5 ?_)
  refine ((holds_writes scM0_7 _).whole zeros2 _).trans ((View.canon_cons_unit_zero zeros2 _ _ []).trans ?_)
  exact congr (congrArg₂ k0_pay3 (congrArg₂ k0_pay687 ((holds_unread (ms0_0 t) (hs0_0 t) _).whole zeros3 _) ((holds_unread (ms0_3 t) (hs0_3 t) _).whole zeros2 _)) (readCov_g (grid0.coords t) scM0_4 (holds_unread scM0_3 (Memref.isWhole_whole _) _)
    (holds_unread (ms0_6 t) (hs0_6 t) _) (holds_unread scM0_2 (Memref.isWhole_whole _) _))) ((holds_unread scM0_7 (Memref.isWhole_whole _) _).whole zeros2 _)

/-- The magnitudes' gradient is the sum of the eight partial sums, as the last point leaves them, over the norm. -/
theorem dm_C : ∃ M : Vec Ideal S8x1152 .f32, (outsAt0 (F := Ideal) m c t.val t.isLt).2.2.2.1 = k0_pay6 M (prev m c t).2.2.2.2.2.2.2.2.1 ∧
    ∀ (o : Fin 9) (q : Fin 8) (l : Fin 128), M (dmIdx o q l)
      = (prev m c t).2.2.2.2.2.2.2.2.2.2.2.2.2.2 (dmIdx o q l) + ∑ k : Fin 4, dmPart (k0_pay686 (iblk m c 0 t) (prev m c t).2.2.2.2.2.2.2.1)
      (scaleV (grid0.coords t) (prev m c t).2.2.2.2.2.2.2.2.2.2.1) (dyV (iblk m c 6 t)) o q l k := by
  rw [outsAt0_C m c t h0 h1]; dsimp only; unfold out0_C_11
  rw [View.read_writes_junk_eq_canon]
  refine ⟨_, (View.canon_cons_unit_zero zeros2 _ _ []).trans (congrArg₂ k0_pay6 ((holds_writes scM0_8 _).whole zeros2 _)
    ((holds_unread scM0_1 (Memref.isWhole_whole _) _).whole zeros2 _)), fun o q l => ?_⟩
  refine Eq.trans (dm_found (a := scM0_8) (f := (Memref.isWhole_whole _).unread (prev m c t).2.2.2.2.2.2.2.2.2.2.2.2.2.2) (holds_unread scM0_8 (Memref.isWhole_whole _) _) _ (scaleR (grid0.coords t) scM0_3 _) (dyR (ms0_6 t) _) o q l)
    (congrArg ((prev m c t).2.2.2.2.2.2.2.2.2.2.2.2.2.2 (dmIdx o q l) + ·) (Finset.sum_congr rfl fun k _ => ?_))
  rw [scaleR_eq (grid0.coords t) (holds_unread scM0_3 (Memref.isWhole_whole _) _), dyR_eq (holds_unread (ms0_6 t) (hs0_6 t) _)]
  exact congrArg (fun z => dmPart z _ _ o q l k) (congrArg₂ k0_pay686 ((holds_unread (ms0_0 t) (hs0_0 t) _).whole zeros3 _) ((holds_unread scM0_0 (Memref.isWhole_whole _) _).whole zeros2 _))

end

end Cert.KernelIdeal.Tiles

end
-- ==== Proof.Inv.lean ====
/-
  What the four grid points leave, by induction over the points: the kept arrays stay what they are, the accumulators hold the
  sums over the points so far, and each point's output blocks are the blocks of the results.
-/
module

public import proofs.«01_k».proof.Proof.Arrays
public import proofs.«01_k».proof.Proof.StepADm
public import proofs.«01_k».proof.Proof.StepB
public import proofs.«01_k».proof.Proof.StepC

@[expose] public section

set_option maxRecDepth 16384

noncomputable section

open Idealize.ShloMosaic Idealize.ShloMosaic.TcCoe Idealize.SL.Sem Cert.KernelIdeal.Gen

namespace Cert.KernelIdeal.Tiles

variable (m : (ℓ : Loc nD τ sig) → Buf (Elt Ideal) ℓ) (c : Dev nD)

/-- What the points up to and including point `n` leave. -/
structure Inv (n : ℕ) (hn : n < cfg0.N) : Prop where
  carried : Carried (args m c) (outsAt0 (F := Ideal) m c n hn).2.2.2.2.2.2.2.1 (outsAt0 (F := Ideal) m c n hn).2.2.2.2.2.2.2.2.1
    (outsAt0 (F := Ideal) m c n hn).2.2.2.2.2.2.2.2.2.1 (outsAt0 (F := Ideal) m c n hn).2.2.2.2.2.2.2.2.2.2.1 (outsAt0 (F := Ideal) m c n hn).2.2.2.2.2.2.2.2.2.2.2.1
  da : ∀ (r : Fin 64) (i : Fin 3584), (outsAt0 (F := Ideal) m c n hn).2.2.2.2.2.2.2.2.2.2.2.2.1 (ix2 r i) = ∑ k ∈ Finset.range (n + 1), daPart (args m c) k r i
  db : ∀ (r : Fin 64) (o : Fin 1152), (outsAt0 (F := Ideal) m c n hn).2.2.2.2.2.2.2.2.2.2.2.2.2.1 (ix2 r o) = ∑ k ∈ Finset.range (n + 1), dbPart (args m c) k o r
  dm : ∀ (o : Fin 9) (q : Fin 8) (l : Fin 128), (outsAt0 (F := Ideal) m c n hn).2.2.2.2.2.2.2.2.2.2.2.2.2.2 (dmIdx o q l)
    = ∑ k ∈ Finset.range (n + 1), dmRow (args m c) k q ⟨128 * o.val + l.val, by omega⟩
  dx : ∀ (u : Fin 1) (p : Fin 512) (i : Fin 3584), (outsAt0 (F := Ideal) m c n hn).1 (ix3 u p i) = Dora.dx (args m c) (bt n) (st n p) i
  z : ∀ (u : Fin 1) (p : Fin 512) (o : Fin 1152), (outsAt0 (F := Ideal) m c n hn).2.2.2.2.1 (ix3 u p o) = Dora.z (args m c) (bt n) (st n p) o
  xa : ∀ (u : Fin 1) (p : Fin 512) (r : Fin 64), (outsAt0 (F := Ideal) m c n hn).2.2.2.2.2.1 (ix3 u p r) = Dora.xa (args m c) (bt n) (st n p) r
  gb : ∀ (u : Fin 1) (p : Fin 512) (r : Fin 64), (outsAt0 (F := Ideal) m c n hn).2.2.2.2.2.2.1 (ix3 u p r) = Dora.gb (args m c) (bt n) (st n p) r

/-- The first point. -/
theorem inv_first (t : Fin cfg0.N) (ht : t.val = 0) : Inv m c t.val t.isLt := by
  have h0 : t.val % 4 = 0 := by omega
  have h1 : ¬ t.val % 4 = 3 := by omega
  have hc := carried_A m c t
  have hr : Finset.range (t.val + 1) = {t.val} := by rw [ht]; rfl
  refine ⟨?_, fun r i => ?_, fun r o => ?_, fun o q l => ?_, fun u p i => ?_, fun u p o => ?_, fun u p r => ?_, fun u p r => ?_⟩
  · rw [v_A m c t h0 h1, n_A m c t h0 h1, fac_A m c t h0 h1, dsc_A m c t h0 h1, bt_A m c t h0 h1]; exact hc
  · rw [daAcc_A m c t h0 h1, daStep m c t hc, pay682_at, zero_add, hr, Finset.sum_singleton]
  · rw [dbAcc_A m c t h0 h1, dbStep m c t hc, pay683_at, zero_add, hr, Finset.sum_singleton]
  · rw [dmAcc_A m c t h0 h1, dmStep m c t hc, hr, Finset.sum_singleton]
    refine (congrArg (· + _) (pay684_at q ⟨128 * o.val + l.val, by omega⟩)).trans (zero_add _)
  · rw [dx_A m c t h0 h1, dxBlk m c t hc]
  · rw [z_A m c t h0 h1, zStore m c t hc]
  · rw [xa_A m c t h0 h1, xaStore m c t]
  · rw [gb_A m c t h0 h1, gbStore m c t hc]

/-- Every later point. -/
theorem inv_next (t : Fin cfg0.N) (h0 : ¬ t.val % 4 = 0) (hp : Inv m c (t.val - 1) (Nat.lt_of_le_of_lt (Nat.sub_le _ _) t.isLt)) :
    Inv m c t.val t.isLt := by
  have hc := hp.carried
  have hs : t.val - 1 + 1 = t.val := by omega
  have hda := hp.da
  have hdb := hp.db
  have hdm := hp.dm
  rw [hs] at hda hdb hdm
  by_cases h1 : t.val % 4 = 3
  · refine ⟨?_, fun r i => ?_, fun r o => ?_, fun o q l => ?_, fun u p i => ?_, fun u p o => ?_, fun u p r => ?_, fun u p r => ?_⟩
    · rw [v_C m c t h0 h1, n_C m c t h0 h1, fac_C m c t h0 h1, dsc_C m c t h0 h1, bt_C m c t h0 h1]; exact hc
    · rw [daAcc_C m c t h0 h1, daStep m c t hc, hda, Finset.sum_range_succ]
    · rw [dbAcc_C m c t h0 h1, dbStep m c t hc, hdb, Finset.sum_range_succ]
    · rw [dmAcc_C m c t h0 h1, dmStep m c t hc, hdm, Finset.sum_range_succ]
    · rw [dx_C m c t h0 h1, dxBlk m c t hc]
    · rw [z_C m c t h0 h1, zStore m c t hc]
    · rw [xa_C m c t h0 h1, xaStore m c t]
    · rw [gb_C m c t h0 h1, gbStore m c t hc]
  · refine ⟨?_, fun r i => ?_, fun r o => ?_, fun o q l => ?_, fun u p i => ?_, fun u p o => ?_, fun u p r => ?_, fun u p r => ?_⟩
    · rw [v_B m c t h0 h1, n_B m c t h0 h1, fac_B m c t h0 h1, dsc_B m c t h0 h1, bt_B m c t h0 h1]; exact hc
    · rw [daAcc_B m c t h0 h1, daStep m c t hc, hda, Finset.sum_range_succ]
    · rw [dbAcc_B m c t h0 h1, dbStep m c t hc, hdb, Finset.sum_range_succ]
    · rw [dmAcc_B m c t h0 h1, dmStep m c t hc, hdm, Finset.sum_range_succ]
    · rw [dx_B m c t h0 h1, dxBlk m c t hc]
    · rw [z_B m c t h0 h1, zStore m c t hc]
    · rw [xa_B m c t h0 h1, xaStore m c t]
    · rw [gb_B m c t h0 h1, gbStore m c t hc]

/-- All points. -/
theorem inv : ∀ (n : ℕ) (hn : n < cfg0.N), Inv m c n hn
  | 0, hn => inv_first m c ⟨0, hn⟩ rfl
  | n + 1, hn => inv_next m c ⟨n + 1, hn⟩ (by have := N4 ⟨n + 1, hn⟩; simp only at this ⊢; omega) (inv n (Nat.lt_of_succ_lt hn))

/-- The first factor's gradient, as the last point writes it. -/
theorem da_last (hn : 3 < cfg0.N) (r : Fin 64) (i : Fin 3584) : (outsAt0 (F := Ideal) m c 3 hn).2.1 (ix2 r i) = Dora.da (args m c) r i := by
  rw [da_C m c ⟨3, hn⟩ (show ¬ 3 % 4 = 0 by decide) (show 3 % 4 = 3 by decide), pay4_at, (inv m c 3 hn).da]
  exact (sum_points fun b s => Dora.gb (args m c) b s r * (args m c).x b s i).symm

/-- The second factor's gradient, as the last point writes it. -/
theorem db_last (hn : 3 < cfg0.N) (o : Fin 1152) (r : Fin 64) : (outsAt0 (F := Ideal) m c 3 hn).2.2.1 (ix2 o r) = Dora.db (args m c) o r := by
  rw [db_C m c ⟨3, hn⟩ (show ¬ 3 % 4 = 0 by decide) (show 3 % 4 = 3 by decide), pay5_at, (inv m c 3 hn).db]
  exact (sum_points fun b s => Dora.g (args m c) b s o * Dora.xa (args m c) b s r).symm

/-- The magnitudes' gradient, as the last point writes it. -/
theorem dm_last (hn : 3 < cfg0.N) (u : Fin 1) (o : Fin 1152) : (outsAt0 (F := Ideal) m c 3 hn).2.2.2.1 (ix2 u o) = Dora.dm (args m c) o := by
  obtain ⟨M, hM, hq⟩ := dm_C m c ⟨3, hn⟩ (show ¬ 3 % 4 = 0 by decide) (show 3 % 4 = 3 by decide)
  have hp : Inv m c ((⟨3, hn⟩ : Fin cfg0.N).val - 1) (Nat.lt_of_le_of_lt (Nat.sub_le _ _) hn) := inv m c 2 (Nat.lt_of_succ_lt hn)
  have hv : ∀ q : Fin 8, M (ix2 q o) = ∑ k ∈ Finset.range 4, dmRow (args m c) k q o := fun q => by
    have e := hq ⟨o.val / 128, by omega⟩ q ⟨o.val % 128, by omega⟩
    rw [dmStep m c ⟨3, hn⟩ hp.carried] at e
    have e2 := e.trans (congrArg (· + _) (hp.dm ⟨o.val / 128, by omega⟩ q ⟨o.val % 128, by omega⟩))
    have ho : (⟨128 * (o.val / 128) + o.val % 128, by omega⟩ : Fin 1152) = o := Fin.ext (by simp only; omega)
    have hi : dmIdx ⟨o.val / 128, by omega⟩ q ⟨o.val % 128, by omega⟩ = ix2 q o := congrArg (ix2 q) ho
    rw [hi] at e2
    rw [Finset.sum_range_succ]
    refine e2.trans ?_
    simp only [ho]
  rw [hM, pay6_at, hp.carried.n]
  unfold Dora.dm
  refine congrArg (Ideal.div · _) ?_
  simp only [hv]
  rw [sum_points, Finset.sum_comm]
  exact Finset.sum_congr rfl fun n _ => sum_residues fun p => Dora.dyf (args m c) (bt n) (st n p) o * Dora.z (args m c) (bt n) (st n p) o

end Cert.KernelIdeal.Tiles

end
-- ==== Proof.KernValue.lean ====
/-
  What the kernel computes: each of its seven result arrays is the plain sum Spec.lean states.
-/
module

public import proofs.«01_k».proof.Proof.Inv
public import proofs.«01_k».proof.Proof.Gen.KernelIdeal.Value

@[expose] public section

set_option maxRecDepth 16384

noncomputable section

open Idealize.ShloMosaic Idealize.ShloMosaic.TcCoe Idealize.SL.Sem Cert.KernelIdeal.Gen

namespace Cert.KernelIdeal.Tiles

variable (m : (ℓ : Loc nD τ sig) → Buf (Elt Ideal) ℓ) (c : Dev nD)

/-- The activations' gradient. -/
theorem G8_eq : Value.G8 (F := Ideal) m c = (fun j => Dora.dx (args m c) (j 0) (j 1) (j 2) : Vec Ideal S2x1024x3584 .bf16) := by
  funext j
  have h0 : (j 0).val < 2 := (j 0).isLt
  have h1 : (j 1).val < 1024 := (j 1).isLt
  have h2 : (j 2).val < 3584 := (j 2).isLt
  have hn : Value.pt8Of j = 2 * (j 0).val + (j 1).val / 512 := by
    show 2 * ((j 0).val / 1 - 0) + 1 * ((j 1).val / 512 - 0) + 1 * ((j 2).val / 3584 - 0) = _; omega
  have hN : Value.pt8Of j < cfg0.N := by rw [hn]; exact lt_of_lt_of_eq (by omega : _ < 4) N_0.symm
  have hl : Value.loc8Of j = ix3 (0 : Fin 1) (⟨(j 1).val % 512, Nat.mod_lt _ (by decide)⟩ : Fin 512) (⟨(j 2).val % 3584, Nat.mod_lt _ (by decide)⟩ : Fin 3584) :=
    funext fun a => by
      match a with
      | ⟨0, _⟩ => exact Fin.ext (Nat.mod_one _)
      | ⟨1, _⟩ => rfl
      | ⟨2, _⟩ => rfl
  unfold Value.G8
  refine (dif_pos hN).trans ?_
  refine (congrArg (fun s => s.1 (Value.loc8Of j)) (Value.outsAt0_sweep (F := Ideal) m c _ hN).symm).trans ?_
  rw [hl]
  refine ((inv m c _ hN).dx _ _ _).trans ?_
  have hb : bt (Value.pt8Of j) = (j 0 : Fin 2) := Fin.ext (by show Value.pt8Of j / 2 % 2 = (j 0).val; rw [hn]; omega)
  have hs : st (Value.pt8Of j) ⟨(j 1).val % 512, Nat.mod_lt _ (by decide)⟩ = (j 1 : Fin 1024) := Fin.ext (by
    show 512 * (Value.pt8Of j % 2) + (j 1).val % 512 = (j 1).val; rw [hn]; omega)
  have hi : (⟨(j 2).val % 3584, Nat.mod_lt _ (by decide)⟩ : Fin 3584) = j 2 := Fin.ext (Nat.mod_eq_of_lt h2)
  exact congr (congr (congrArg (Dora.dx (args m c)) hb) hs) hi

/-- The product. -/
theorem G12_eq : Value.G12 (F := Ideal) m c = (fun j => Dora.z (args m c) (j 0) (j 1) (j 2) : Vec Ideal S2x1024x1152 .bf16) := by
  funext j
  have h0 : (j 0).val < 2 := (j 0).isLt
  have h1 : (j 1).val < 1024 := (j 1).isLt
  have h2 : (j 2).val < 1152 := (j 2).isLt
  have hn : Value.pt12Of j = 2 * (j 0).val + (j 1).val / 512 := by
    show 2 * ((j 0).val / 1 - 0) + 1 * ((j 1).val / 512 - 0) + 1 * ((j 2).val / 1152 - 0) = _; omega
  have hN : Value.pt12Of j < cfg0.N := by rw [hn]; exact lt_of_lt_of_eq (by omega : _ < 4) N_0.symm
  have hl : Value.loc12Of j = ix3 (0 : Fin 1) (⟨(j 1).val % 512, Nat.mod_lt _ (by decide)⟩ : Fin 512) (⟨(j 2).val % 1152, Nat.mod_lt _ (by decide)⟩ : Fin 1152) :=
    funext fun a => by
      match a with
      | ⟨0, _⟩ => exact Fin.ext (Nat.mod_one _)
      | ⟨1, _⟩ => rfl
      | ⟨2, _⟩ => rfl
  unfold Value.G12
  refine (dif_pos hN).trans ?_
  refine (congrArg (fun s => s.2.2.2.2.1 (Value.loc12Of j)) (Value.outsAt0_sweep (F := Ideal) m c _ hN).symm).trans ?_
  rw [hl]
  refine ((inv m c _ hN).z _ _ _).trans ?_
  have hb : bt (Value.pt12Of j) = (j 0 : Fin 2) := Fin.ext (by show Value.pt12Of j / 2 % 2 = (j 0).val; rw [hn]; omega)
  have hs : st (Value.pt12Of j) ⟨(j 1).val % 512, Nat.mod_lt _ (by decide)⟩ = (j 1 : Fin 1024) := Fin.ext (by
    show 512 * (Value.pt12Of j % 2) + (j 1).val % 512 = (j 1).val; rw [hn]; omega)
  have hi : (⟨(j 2).val % 1152, Nat.mod_lt _ (by decide)⟩ : Fin 1152) = j 2 := Fin.ext (Nat.mod_eq_of_lt h2)
  exact congr (congr (congrArg (Dora.z (args m c)) hb) hs) hi

/-- The activations times the first factor. -/
theorem G13_eq : Value.G13 (F := Ideal) m c = (fun j => Dora.xa (args m c) (j 0) (j 1) (j 2) : Vec Ideal S2x1024x64 .bf16) := by
  funext j
  have h0 : (j 0).val < 2 := (j 0).isLt
  have h1 : (j 1).val < 1024 := (j 1).isLt
  have h2 : (j 2).val < 64 := (j 2).isLt
  have hn : Value.pt13Of j = 2 * (j 0).val + (j 1).val / 512 := by
    show 2 * ((j 0).val / 1 - 0) + 1 * ((j 1).val / 512 - 0) + 1 * ((j 2).val / 64 - 0) = _; omega
  have hN : Value.pt13Of j < cfg0.N := by rw [hn]; exact lt_of_lt_of_eq (by omega : _ < 4) N_0.symm
  have hl : Value.loc13Of j = ix3 (0 : Fin 1) (⟨(j 1).val % 512, Nat.mod_lt _ (by decide)⟩ : Fin 512) (⟨(j 2).val % 64, Nat.mod_lt _ (by decide)⟩ : Fin 64) :=
    funext fun a => by
      match a with
      | ⟨0, _⟩ => exact Fin.ext (Nat.mod_one _)
      | ⟨1, _⟩ => rfl
      | ⟨2, _⟩ => rfl
  unfold Value.G13
  refine (dif_pos hN).trans ?_
  refine (congrArg (fun s => s.2.2.2.2.2.1 (Value.loc13Of j)) (Value.outsAt0_sweep (F := Ideal) m c _ hN).symm).trans ?_
  rw [hl]
  refine ((inv m c _ hN).xa _ _ _).trans ?_
  have hb : bt (Value.pt13Of j) = (j 0 : Fin 2) := Fin.ext (by show Value.pt13Of j / 2 % 2 = (j 0).val; rw [hn]; omega)
  have hs : st (Value.pt13Of j) ⟨(j 1).val % 512, Nat.mod_lt _ (by decide)⟩ = (j 1 : Fin 1024) := Fin.ext (by
    show 512 * (Value.pt13Of j % 2) + (j 1).val % 512 = (j 1).val; rw [hn]; omega)
  have hi : (⟨(j 2).val % 64, Nat.mod_lt _ (by decide)⟩ : Fin 64) = j 2 := Fin.ext (Nat.mod_eq_of_lt h2)
  exact congr (congr (congrArg (Dora.xa (args m c)) hb) hs) hi

/-- The gradient times the second factor. -/
theorem G14_eq : Value.G14 (F := Ideal) m c = (fun j => Dora.gb (args m c) (j 0) (j 1) (j 2) : Vec Ideal S2x1024x64 .bf16) := by
  funext j
  have h0 : (j 0).val < 2 := (j 0).isLt
  have h1 : (j 1).val < 1024 := (j 1).isLt
  have h2 : (j 2).val < 64 := (j 2).isLt
  have hn : Value.pt14Of j = 2 * (j 0).val + (j 1).val / 512 := by
    show 2 * ((j 0).val / 1 - 0) + 1 * ((j 1).val / 512 - 0) + 1 * ((j 2).val / 64 - 0) = _; omega
  have hN : Value.pt14Of j < cfg0.N := by rw [hn]; exact lt_of_lt_of_eq (by omega : _ < 4) N_0.symm
  have hl : Value.loc14Of j = ix3 (0 : Fin 1) (⟨(j 1).val % 512, Nat.mod_lt _ (by decide)⟩ : Fin 512) (⟨(j 2).val % 64, Nat.mod_lt _ (by decide)⟩ : Fin 64) :=
    funext fun a => by
      match a with
      | ⟨0, _⟩ => exact Fin.ext (Nat.mod_one _)
      | ⟨1, _⟩ => rfl
      | ⟨2, _⟩ => rfl
  unfold Value.G14
  refine (dif_pos hN).trans ?_
  refine (congrArg (fun s => s.2.2.2.2.2.2.1 (Value.loc14Of j)) (Value.outsAt0_sweep (F := Ideal) m c _ hN).symm).trans ?_
  rw [hl]
  refine ((inv m c _ hN).gb _ _ _).trans ?_
  have hb : bt (Value.pt14Of j) = (j 0 : Fin 2) := Fin.ext (by show Value.pt14Of j / 2 % 2 = (j 0).val; rw [hn]; omega)
  have hs : st (Value.pt14Of j) ⟨(j 1).val % 512, Nat.mod_lt _ (by decide)⟩ = (j 1 : Fin 1024) := Fin.ext (by
    show 512 * (Value.pt14Of j % 2) + (j 1).val % 512 = (j 1).val; rw [hn]; omega)
  have hi : (⟨(j 2).val % 64, Nat.mod_lt _ (by decide)⟩ : Fin 64) = j 2 := Fin.ext (Nat.mod_eq_of_lt h2)
  exact congr (congr (congrArg (Dora.gb (args m c)) hb) hs) hi

/-- The first factor's gradient. -/
theorem G9_eq : Value.G9 (F := Ideal) m c = (fun j => Dora.da (args m c) (j 0) (j 1) : Vec Ideal S64x3584 .bf16) := by
  have hN : 3 < cfg0.N := lt_of_lt_of_eq (by decide : 3 < 4) N_0.symm
  funext j
  have h0 : (j 0).val < 64 := (j 0).isLt
  have h1 : (j 1).val < 3584 := (j 1).isLt
  have hp : Value.pt9Of j = 3 := by
    show 4 * (1 * ((j 0).val / 64 - 0) + 1 * ((j 1).val / 3584 - 0)) + 3 = _; omega
  have hP : Value.pt9Of j < cfg0.N := by rw [hp]; exact hN
  have hl : Value.loc9Of j = j := funext fun a => by
    match a with
    | ⟨0, _⟩ => exact Fin.ext (Nat.mod_eq_of_lt h0)
    | ⟨1, _⟩ => exact Fin.ext (Nat.mod_eq_of_lt h1)
  unfold Value.G9
  refine (dif_pos hP).trans ?_
  refine (congrArg (fun s => s.2.1 (Value.loc9Of j)) (Value.outsAt0_sweep (F := Ideal) m c _ hP).symm).trans ?_
  rw [hl]
  generalize Value.pt9Of j = n at hp hP
  subst hp
  rw [ValueIdx.eq_ix2 j]
  exact da_last m c hN _ _

/-- The second factor's gradient. -/
theorem G10_eq : Value.G10 (F := Ideal) m c = (fun j => Dora.db (args m c) (j 0) (j 1) : Vec Ideal S1152x64 .bf16) := by
  have hN : 3 < cfg0.N := lt_of_lt_of_eq (by decide : 3 < 4) N_0.symm
  funext j
  have h0 : (j 0).val < 1152 := (j 0).isLt
  have h1 : (j 1).val < 64 := (j 1).isLt
  have hp : Value.pt10Of j = 3 := by
    show 4 * (1 * ((j 0).val / 1152 - 0) + 1 * ((j 1).val / 64 - 0)) + 3 = _; omega
  have hP : Value.pt10Of j < cfg0.N := by rw [hp]; exact hN
  have hl : Value.loc10Of j = j := funext fun a => by
    match a with
    | ⟨0, _⟩ => exact Fin.ext (Nat.mod_eq_of_lt h0)
    | ⟨1, _⟩ => exact Fin.ext (Nat.mod_eq_of_lt h1)
  unfold Value.G10
  refine (dif_pos hP).trans ?_
  refine (congrArg (fun s => s.2.2.1 (Value.loc10Of j)) (Value.outsAt0_sweep (F := Ideal) m c _ hP).symm).trans ?_
  rw [hl]
  generalize Value.pt10Of j = n at hp hP
  subst hp
  rw [ValueIdx.eq_ix2 j]
  exact db_last m c hN _ _

/-- The magnitudes' gradient. -/
theorem G11_eq : Value.G11 (F := Ideal) m c = (fun j => Dora.dm (args m c) (j 1) : Vec Ideal S1x1152 .f32) := by
  have hN : 3 < cfg0.N := lt_of_lt_of_eq (by decide : 3 < 4) N_0.symm
  funext j
  have h0 : (j 0).val < 1 := (j 0).isLt
  have h1 : (j 1).val < 1152 := (j 1).isLt
  have hp : Value.pt11Of j = 3 := by
    show 4 * (1 * ((j 0).val / 1 - 0) + 1 * ((j 1).val / 1152 - 0)) + 3 = _; omega
  have hP : Value.pt11Of j < cfg0.N := by rw [hp]; exact hN
  have hl : Value.loc11Of j = j := funext fun a => by
    match a with
    | ⟨0, _⟩ => exact Fin.ext (Nat.mod_eq_of_lt h0)
    | ⟨1, _⟩ => exact Fin.ext (Nat.mod_eq_of_lt h1)
  unfold Value.G11
  refine (dif_pos hP).trans ?_
  refine (congrArg (fun s => s.2.2.2.1 (Value.loc11Of j)) (Value.outsAt0_sweep (F := Ideal) m c _ hP).symm).trans ?_
  rw [hl]
  generalize Value.pt11Of j = n at hp hP
  subst hp
  rw [ValueIdx.eq_ix2 j]
  exact dm_last m c hN _ _

end Cert.KernelIdeal.Tiles

end
-- ==== Proof.RefValue.lean ====
/-
  What the reference computes: each of its seven results, read at coordinates, is the plain sum Spec.lean states.
-/
module

public import proofs.«01_k».proof.Proof.Spec
public import proofs.«01_k».proof.Proof.Gen.ReferenceIdeal.Read

@[expose] public section

set_option maxRecDepth 16384

noncomputable section

open Idealize.ShloMosaic Idealize.ShloMosaic.TcCoe Idealize.SL.Sem

namespace Cert.ReferenceIdeal.RefValue

open Cert.ReferenceIdeal Cert.ReferenceIdeal.Gen Cert.ReferenceIdeal.Read Cert.Dora
open Idealize.ShloMosaic.Pipeline (Dat)

/-! ## The host operations -/

section Host

variable (x0 : Vec Ideal S2x1024x3584 .bf16) (x1 : Vec Ideal S1152x3584 .f32) (x2 : Vec Ideal S1152 .f32)
  (x3 : Vec Ideal S64x3584 .bf16) (x4 : Vec Ideal S1152x64 .bf16) (x5 : Vec Ideal S1152 .f32)
  (x6 : Vec Ideal S2x1024x1152 .f32) (x7 : Vec Ideal S2x1024 .f32)

/-- The combined weight. -/
theorem v5_at (o : Fin 1152) (i : Fin 3584) : val_main_v5 (F := Ideal) x2 x3 x4 x1 (ix2 o i) = v (ofArrays x0 x1 x2 x3 x4 x5 x6 x7) o i := by
  pointwise [val_main_v5, val_main_v4, val_main_v3, val_main_v2, val_main_v1]
  rfl

/-- The norm of each row of it. -/
theorem v8_at (o : Fin 1152) : val_main_v8 (F := Ideal) x2 x3 x4 x1 (ix1 o) = n (ofArrays x0 x1 x2 x3 x4 x5 x6 x7) o := by
  pointwise [val_main_v8, val_main_v7, val_main_v6, val_main_cst]
  simp only [v5_at x0 x1 x2 x3 x4 x5 x6 x7]
  rfl

/-- The norm with zero replaced by one. -/
theorem v11_at (o : Fin 1152) : val_main_v11 (F := Ideal) x2 x3 x4 x1 (ix1 o) = nsafe (ofArrays x0 x1 x2 x3 x4 x5 x6 x7) o := by
  pointwise [val_main_v11, val_main_v10, val_main_v9, val_main_cst_0, val_main_call0_v1, val_main_call0_v0, val_main_cst_1]
  rw [v8_at x0 x1 x2 x3 x4 x5 x6 x7]
  rfl

/-- Magnitude over norm. -/
theorem v12_at (o : Fin 1152) : val_main_v12 (F := Ideal) x2 x3 x4 x5 x1 (ix1 o) = c (ofArrays x0 x1 x2 x3 x4 x5 x6 x7) o := by
  pointwise [val_main_v12]
  rw [v11_at x0 x1 x2 x3 x4 x5 x6 x7]
  rfl

/-- The product with the combined weight. -/
theorem v14_at (b : Fin 2) (s : Fin 1024) (o : Fin 1152) : val_main_v14 (F := Ideal) x0 x2 x3 x4 x1 (ix3 b s o) = z (ofArrays x0 x1 x2 x3 x4 x5 x6 x7) b s o := by
  pointwise [val_main_v14, val_main_v13]
  simp only [v5_at x0 x1 x2 x3 x4 x5 x6 x7]
  rfl

/-- The scaled incoming gradient. -/
theorem v17_at (b : Fin 2) (s : Fin 1024) (o : Fin 1152) : val_main_v17 (F := Ideal) x7 x6 (ix3 b s o) = dyf (ofArrays x0 x1 x2 x3 x4 x5 x6 x7) b s o := by
  pointwise [val_main_v17, val_main_v16, val_main_v15]
  rfl

/-- The gradient with respect to that product. -/
theorem v24_at (b : Fin 2) (s : Fin 1024) (o : Fin 1152) : val_main_v24 (F := Ideal) x2 x3 x4 x5 x7 x1 x6 (ix3 b s o) = g (ofArrays x0 x1 x2 x3 x4 x5 x6 x7) b s o := by
  pointwise [val_main_v24, val_main_v23, val_main_v22, val_main_v21]
  rw [v12_at x0 x1 x2 x3 x4 x5 x6 x7, v17_at x0 x1 x2 x3 x4 x5 x6 x7]
  rfl

/-- Of the indices of an array of rank three, those with a given last coordinate are the pairs of the first two. -/
theorem fiber_last {n0 n1 n2 : Nat} {t : Shape} (h : (⟨3, ![n0, n1, n2]⟩ : Shape).ReducesTo [0, 1] t) (h0 : 0 < t.rank)
    (j : t.Idx) (o : Fin n2) (ho : (j ⟨0, h0⟩).val = o.val) (i : (⟨3, ![n0, n1, n2]⟩ : Shape).Idx) :
    h.drop i = j ↔ ∃ k : Fin n0 × Fin n1, ix3 k.1 k.2 o = i := by
  have hr : t.rank = 1 := h.1
  constructor
  · intro e
    refine ⟨(i 0, i 1), ?_⟩
    funext a; apply Fin.ext
    match a with
    | ⟨0, _⟩ => rfl
    | ⟨1, _⟩ => rfl
    | ⟨2, _⟩ => exact (ho.symm.trans (congrArg Fin.val (congrFun e ⟨0, h0⟩)).symm)
  · rintro ⟨k, rfl⟩
    funext b
    apply Fin.ext
    match b with
    | ⟨0, _⟩ => exact ho.symm
    | ⟨_ + 1, hb⟩ => exact absurd hb (by omega)

/-- A sum of an array of rank three over its first two axes, read at its one kept coordinate. -/
theorem reduce_first_two {n0 n1 n2 : Nat} {t : Shape} (h : (⟨3, ![n0, n1, n2]⟩ : Shape).ReducesTo [0, 1] t) (h0 : 0 < t.rank)
    (j : t.Idx) (o : Fin n2) (ho : (j ⟨0, h0⟩).val = o.val) (f : (⟨3, ![n0, n1, n2]⟩ : Shape).Idx → EReal) (init : EReal) :
    Ideal.hostReduceAdd h f init j = init + ∑ k0 : Fin n0, ∑ k1 : Fin n1, f (ix3 k0 k1 o) := by
  unfold Ideal.hostReduceAdd
  refine congrArg (init + ·) ((Finset.sum_filter_eq_sum_of_fiber _ (fun k : Fin n0 × Fin n1 => ix3 k.1 k.2 o)
    (fun _ _ e => Prod.ext (congrFun e 0) (congrFun e 1)) (fiber_last h h0 j o ho) f).trans ?_)
  simp only [Fintype.sum_prod_type]

/-- The sum over every row of gradient times product. -/
theorem v19_at (o : Fin 1152) : val_main_v19 (F := Ideal) x0 x2 x3 x4 x7 x1 x6 (ix1 o) = ∑ b : Fin 2, ∑ s : Fin 1024, dyf (ofArrays x0 x1 x2 x3 x4 x5 x6 x7) b s o * z (ofArrays x0 x1 x2 x3 x4 x5 x6 x7) b s o := by
  pointwise [val_main_v19, val_main_v18, val_main_cst_2]
  rw [reduce_first_two _ Nat.one_pos (ix1 o) o rfl, zero_add]
  pointwise
  simp only [v17_at x0 x1 x2 x3 x4 x5 x6 x7, v14_at x0 x1 x2 x3 x4 x5 x6 x7]

/-- Result 1: the gradient with respect to the activations. -/
theorem dx_at (b : Fin 2) (s : Fin 1024) (i : Fin 3584) : val_main_v26 (F := Ideal) x2 x3 x4 x5 x7 x1 x6 (ix3 b s i) = dx (ofArrays x0 x1 x2 x3 x4 x5 x6 x7) b s i := by
  pointwise [val_main_v26, val_main_v25, val_main_v13]
  simp only [v24_at x0 x1 x2 x3 x4 x5 x6 x7, v5_at x0 x1 x2 x3 x4 x5 x6 x7]
  rfl

/-- Result 6: the projected activations. -/
theorem xa_at (b : Fin 2) (s : Fin 1024) (r : Fin 64) : val_main_v28 (F := Ideal) x0 x3 (ix3 b s r) = xa (ofArrays x0 x1 x2 x3 x4 x5 x6 x7) b s r := by
  pointwise [val_main_v28, val_main_v27]
  rfl

/-- Result 7: the projected gradient. -/
theorem gb_at (b : Fin 2) (s : Fin 1024) (r : Fin 64) : val_main_v30 (F := Ideal) x2 x3 x4 x5 x7 x1 x6 (ix3 b s r) = gb (ofArrays x0 x1 x2 x3 x4 x5 x6 x7) b s r := by
  pointwise [val_main_v30, val_main_v29]
  simp only [v24_at x0 x1 x2 x3 x4 x5 x6 x7]
  rfl

/-- Result 2: the gradient with respect to the first low-rank factor. -/
theorem da_at (r : Fin 64) (i : Fin 3584) : val_main_v32 (F := Ideal) x0 x2 x3 x4 x5 x7 x1 x6 (ix2 r i) = da (ofArrays x0 x1 x2 x3 x4 x5 x6 x7) r i := by
  pointwise [val_main_v32, val_main_v31]
  simp only [gb_at x0 x1 x2 x3 x4 x5 x6 x7]
  rfl

/-- Result 3: the gradient with respect to the second low-rank factor. -/
theorem db_at (o : Fin 1152) (r : Fin 64) : val_main_v34 (F := Ideal) x0 x2 x3 x4 x5 x7 x1 x6 (ix2 o r) = db (ofArrays x0 x1 x2 x3 x4 x5 x6 x7) o r := by
  pointwise [val_main_v34, val_main_v33]
  simp only [v24_at x0 x1 x2 x3 x4 x5 x6 x7, xa_at x0 x1 x2 x3 x4 x5 x6 x7]
  rfl

/-- Result 4: the gradient with respect to the magnitudes. -/
theorem dm_at (u : Fin 1) (o : Fin 1152) : val_main_v35 (F := Ideal) x0 x2 x3 x4 x7 x1 x6 (ix2 u o) = dm (ofArrays x0 x1 x2 x3 x4 x5 x6 x7) o := by
  pointwise [val_main_v35, val_main_v20]
  rw [v19_at x0 x1 x2 x3 x4 x5 x6 x7, v11_at x0 x1 x2 x3 x4 x5 x6 x7]
  rfl

/-- Result 5: the product with the combined weight. -/
theorem z_at (b : Fin 2) (s : Fin 1024) (o : Fin 1152) : val_main_v36 (F := Ideal) x0 x2 x3 x4 x1 (ix3 b s o) = z (ofArrays x0 x1 x2 x3 x4 x5 x6 x7) b s o := by
  pointwise [val_main_v36]
  rw [v14_at x0 x1 x2 x3 x4 x5 x6 x7]

end Host

/-! ## The decoding of the two code arrays -/

section Decode

variable (m : (ℓ : Loc nD τ sig) → Buf (Elt Ideal) ℓ) (c : Dev nD)

theorem hz2 : (![0, 0] : Fin 2 → Nat) = fun _ => 0 := funext fun a => by fin_cases a <;> rfl
theorem hz3 : (![0, 0, 0] : Fin 3 → Nat) = fun _ => 0 := funext fun a => by fin_cases a <;> rfl

/-- The weight codes' block is the whole array. -/
theorem iblk_0 (t : Fin cfg0.N) : (iblk m c 0 t : Vec Ideal S1152x3584 .fp8e4m3) = m ((c.tc : Thread nD τ).loc main_arg1) := by
  obtain rfl := fin_N0 t
  have hz' : (fun a => win0_0.index t0_0 a * main_arg1.ty.shape.size a) = fun _ => 0 := funext fun a => by fin_cases a <;> decide
  exact (Memref.read_access_unit_zero (Elt Ideal) main_arg1 hz' (fun a => by rw [congrFun hz' a]; simp) (V m c main_arg1)).trans (V_main_arg1 m c)

/-- The gradient codes' block is the whole array. -/
theorem iblk_1 (t : Fin cfg0.N) : (iblk m c 1 t : Vec Ideal S2x1024x1152 .fp8e5m2) = m ((c.tc : Thread nD τ).loc main_arg6) := by
  obtain rfl := fin_N0 t
  have hz' : (fun a => win0_1.index t0_0 a * main_arg6.ty.shape.size a) = fun _ => 0 := funext fun a => by fin_cases a <;> decide
  exact (Memref.read_access_unit_zero (Elt Ideal) main_arg6 hz' (fun a => by rw [congrFun hz' a]; simp) (V m c main_arg6)).trans (V_main_arg6 m c)

/-- The decoded weight: at the ideal values a code is its own value. -/
abbrev decW : Buf (Elt Ideal) ((c.tc : Thread nD τ).loc main_v0_0) := fun j => (m ((c.tc : Thread nD τ).loc main_arg1) : Vec Ideal S1152x3584 .fp8e4m3) j
/-- The decoded gradient. -/
abbrev decDy : Buf (Elt Ideal) ((c.tc : Thread nD τ).loc main_v0_1) := fun j => (m ((c.tc : Thread nD τ).loc main_arg6) : Vec Ideal S2x1024x1152 .fp8e5m2) j

/-- The decoding kernel leaves the decoded weight. -/
theorem reg_0 : Value.reg_main_v0_0 m c = decW m c := by
  refine (dats m 0 c).arrAt_eq_of_cover 2 (decW m c) (fun t _ => ?_) fun i => ⟨t0_0, flush0_2 _, ?_⟩
  · show (cfg0.win 2).cut (grid0.coords t) ((dats m 0 c).after 2 t) = _
    rw [after0_2]
    unfold out0_2
    rw [iblk_0, View.canon_unit_zero hz2, View.ld_unit_zero hz2]
    obtain rfl := fin_N0 t
    have hz' : (fun a => win0_2.index t0_0 a * main_v0_0.ty.shape.size a) = fun _ => 0 := funext fun a => by fin_cases a <;> decide
    exact (Memref.read_access_unit_zero (Elt Ideal) main_v0_0 hz' (fun a => by rw [congrFun hz' a]; simp) (decW m c)).symm
  · show i ∈ ((View.whole main_v0_0).slice (win0_2.rect t0_0)).set
    rw [View.set_slice_whole, Rect.mem_set_unit]
    intro a
    have h0 : (i 0 : Nat) < 1152 := (i 0).isLt
    have h1 : (i 1 : Nat) < 3584 := (i 1).isLt
    match a with
    | ⟨0, _⟩ => exact ⟨Nat.zero_le _, by show (i 0 : Nat) < 0 + 1152; omega⟩
    | ⟨1, _⟩ => exact ⟨Nat.zero_le _, by show (i 1 : Nat) < 0 + 3584; omega⟩

/-- The decoding kernel leaves the decoded gradient. -/
theorem reg_1 : Value.reg_main_v0_1 m c = decDy m c := by
  refine (dats m 0 c).arrAt_eq_of_cover 3 (decDy m c) (fun t _ => ?_) fun i => ⟨t0_0, flush0_3 _, ?_⟩
  · show (cfg0.win 3).cut (grid0.coords t) ((dats m 0 c).after 3 t) = _
    rw [after0_3]
    unfold out0_3
    rw [iblk_1, View.canon_unit_zero hz3, View.ld_unit_zero hz3]
    obtain rfl := fin_N0 t
    have hz' : (fun a => win0_3.index t0_0 a * main_v0_1.ty.shape.size a) = fun _ => 0 := funext fun a => by fin_cases a <;> decide
    exact (Memref.read_access_unit_zero (Elt Ideal) main_v0_1 hz' (fun a => by rw [congrFun hz' a]; simp) (decDy m c)).symm
  · show i ∈ ((View.whole main_v0_1).slice (win0_3.rect t0_0)).set
    rw [View.set_slice_whole, Rect.mem_set_unit]
    intro a
    have h0 : (i 0 : Nat) < 2 := (i 0).isLt
    have h1 : (i 1 : Nat) < 1024 := (i 1).isLt
    have h2 : (i 2 : Nat) < 1152 := (i 2).isLt
    match a with
    | ⟨0, _⟩ => exact ⟨Nat.zero_le _, by show (i 0 : Nat) < 0 + 2; omega⟩
    | ⟨1, _⟩ => exact ⟨Nat.zero_le _, by show (i 1 : Nat) < 0 + 1024; omega⟩
    | ⟨2, _⟩ => exact ⟨Nat.zero_le _, by show (i 2 : Nat) < 0 + 1152; omega⟩

end Decode

/-! ## The run -/

section Run

variable (m : (ℓ : Loc nD τ sig) → Buf (Elt Ideal) ℓ) (c : Dev nD)

/-- The arguments as launched, read at coordinates. -/
abbrev args : Cert.Dora.In :=
  Cert.Dora.ofArrays (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

/-- What each result array of the reference ends holding: the plain sums of Spec.lean over the arguments as launched. -/
theorem run (ρ : Dev nD → PrngReg) :
    θ_run defs (onTc (τ := τ) (main (F := Ideal))) ⟨m, fun _ => 0, ρ⟩ fun r => ∀ c : Dev nD,
      r.2.mem ((c.tc : Thread nD τ).loc main_v26) = (fun j => dx (args m c) (j 0) (j 1) (j 2) : Vec Ideal S2x1024x3584 .bf16)
      ∧ r.2.mem ((c.tc : Thread nD τ).loc main_v32) = (fun j => da (args m c) (j 0) (j 1) : Vec Ideal S64x3584 .bf16)
      ∧ r.2.mem ((c.tc : Thread nD τ).loc main_v34) = (fun j => db (args m c) (j 0) (j 1) : Vec Ideal S1152x64 .bf16)
      ∧ r.2.mem ((c.tc : Thread nD τ).loc main_v35) = (fun j => dm (args m c) (j 1) : Vec Ideal S1x1152 .f32)
      ∧ r.2.mem ((c.tc : Thread nD τ).loc main_v36) = (fun j => z (args m c) (j 0) (j 1) (j 2) : Vec Ideal S2x1024x1152 .bf16)
      ∧ r.2.mem ((c.tc : Thread nD τ).loc main_v28) = (fun j => xa (args m c) (j 0) (j 1) (j 2) : Vec Ideal S2x1024x64 .bf16)
      ∧ r.2.mem ((c.tc : Thread nD τ).loc main_v30) = (fun j => gb (args m c) (j 0) (j 1) (j 2) : Vec Ideal S2x1024x64 .bf16) := by
  refine (θ_run defs _ _).mono (fun r h c => ?_) (Value.run m ρ)
  obtain ⟨h1, h2, h3, h4, h5, h6, h7, -⟩ := h c
  have e1 := val_main_v26_eq (Value.exitV m c)
  have e2 := val_main_v32_eq (Value.exitV m c)
  have e3 := val_main_v34_eq (Value.exitV m c)
  have e4 := val_main_v35_eq (Value.exitV m c)
  have e5 := val_main_v36_eq (Value.exitV m c)
  have e6 := val_main_v28_eq (Value.exitV m c)
  have e7 := val_main_v30_eq (Value.exitV m c)
  rw [Value.exit_main_arg2, Value.exit_main_arg3, Value.exit_main_arg4, Value.exit_main_arg5, Value.exit_main_arg7, Value.exit_main_v0_0, Value.exit_main_v0_1] at e1
  rw [Value.exit_main_arg0, Value.exit_main_arg2, Value.exit_main_arg3, Value.exit_main_arg4, Value.exit_main_arg5, Value.exit_main_arg7, Value.exit_main_v0_0, Value.exit_main_v0_1] at e2
  rw [Value.exit_main_arg0, Value.exit_main_arg2, Value.exit_main_arg3, Value.exit_main_arg4, Value.exit_main_arg5, Value.exit_main_arg7, Value.exit_main_v0_0, Value.exit_main_v0_1] at e3
  rw [Value.exit_main_arg0, Value.exit_main_arg2, Value.exit_main_arg3, Value.exit_main_arg4, Value.exit_main_arg7, Value.exit_main_v0_0, Value.exit_main_v0_1] at e4
  rw [Value.exit_main_arg0, Value.exit_main_arg2, Value.exit_main_arg3, Value.exit_main_arg4, Value.exit_main_v0_0] at e5
  rw [Value.exit_main_arg0, Value.exit_main_arg3] at e6
  rw [Value.exit_main_arg2, Value.exit_main_arg3, Value.exit_main_arg4, Value.exit_main_arg5, Value.exit_main_arg7, Value.exit_main_v0_0, Value.exit_main_v0_1] at e7
  rw [reg_0, reg_1] at h1 h2 h3 h4 h7 e1 e2 e3 e4 e7
  rw [reg_0] at h5 e5
  refine ⟨h1.trans (e1.trans (funext fun j => ?_)), h2.trans (e2.trans (funext fun j => ?_)), h3.trans (e3.trans (funext fun j => ?_)),
    h4.trans (e4.trans (funext fun j => ?_)), h5.trans (e5.trans (funext fun j => ?_)), h6.trans (e6.trans (funext fun j => ?_)),
    h7.trans (e7.trans (funext fun j => ?_))⟩
  · rw [ValueIdx.eq_ix3 j]; exact dx_at (m ((c.tc : Thread nD τ).loc main_arg0)) _ _ _ _ _ _ _ _ _ _
  · rw [ValueIdx.eq_ix2 j]; exact da_at _ _ _ _ _ _ _ _ _ _
  · rw [ValueIdx.eq_ix2 j]; exact db_at _ _ _ _ _ _ _ _ _ _
  · rw [ValueIdx.eq_ix2 j]; exact dm_at _ _ _ _ _ (m ((c.tc : Thread nD τ).loc main_arg5)) _ _ _ _
  · rw [ValueIdx.eq_ix3 j]; exact z_at _ _ _ _ _ (m ((c.tc : Thread nD τ).loc main_arg5)) (m ((c.tc : Thread nD τ).loc main_arg6)) (m ((c.tc : Thread nD τ).loc main_arg7)) _ _ _
  · rw [ValueIdx.eq_ix3 j]; exact xa_at _ (m ((c.tc : Thread nD τ).loc main_arg1)) (m ((c.tc : Thread nD τ).loc main_arg2)) _ (m ((c.tc : Thread nD τ).loc main_arg4)) (m ((c.tc : Thread nD τ).loc main_arg5)) (m ((c.tc : Thread nD τ).loc main_arg6)) (m ((c.tc : Thread nD τ).loc main_arg7)) _ _ _
  · rw [ValueIdx.eq_ix3 j]; exact gb_at (m ((c.tc : Thread nD τ).loc main_arg0)) _ _ _ _ _ _ _ _ _ _

end Run

end Cert.ReferenceIdeal.RefValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Run
public import proofs.«01_k».proof.Proof.Gen.ReferenceIdeal.Read
public import Idealize.ShloMosaic.Adequacy
public import proofs.«01_k».proof.Proof.KernValue
public import proofs.«01_k».proof.Proof.RefValue
public import Idealize.ShloMosaic.Lib.Claim
public import Idealize.ShloMosaic.Init

@[expose] public section

set_option maxRecDepth 16384

noncomputable section

namespace Cert.Proof

open Idealize.ShloMosaic Idealize.ShloMosaic.TcCoe Idealize.SL.Sem

/-- Equal argument arrays are equal arguments. -/
theorem ofArrays_congr {x0 y0 : Vec Ideal Cert.KernelIdeal.S2x1024x3584 .bf16} {x1 y1 : Vec Ideal Cert.KernelIdeal.S1152x3584 .f32}
    {x2 y2 x5 y5 : Vec Ideal Cert.KernelIdeal.S1152 .f32} {x3 y3 : Vec Ideal Cert.KernelIdeal.S64x3584 .bf16}
    {x4 y4 : Vec Ideal Cert.KernelIdeal.S1152x64 .bf16} {x6 y6 : Vec Ideal Cert.KernelIdeal.S2x1024x1152 .f32}
    {x7 y7 : Vec Ideal Cert.KernelIdeal.S2x1024 .f32} (h0 : x0 = y0) (h1 : x1 = y1) (h2 : x2 = y2) (h3 : x3 = y3) (h4 : x4 = y4)
    (h5 : x5 = y5) (h6 : x6 = y6) (h7 : x7 = y7) :
    Cert.Dora.ofArrays x0 x1 x2 x3 x4 x5 x6 x7 = Cert.Dora.ofArrays y0 y1 y2 y3 y4 y5 y6 y7 := by
  subst h0 h1 h2 h3 h4 h5 h6 h7; rfl

/-- The kernel and the reference, from equal arguments, end with equal results: all seven are the sums of Spec.lean. -/
theorem algebraic : Cert.algebraic_KernelIdeal_ReferenceIdeal (hKernelIdeal := Cert.KernelIdeal.Gen.facts)
    (hReferenceIdeal := Cert.ReferenceIdeal.Gen.facts) := by
  intro m g m' g' _ hagree
  have ha : ∀ c, Cert.ReferenceIdeal.RefValue.args m' c = Cert.KernelIdeal.Tiles.args m c := fun c => by
    obtain ⟨h0, h1, h2, h3, h4, h5, h6, h7⟩ := hagree c
    exact ofArrays_congr h0 h1 h2 h3 h4 h5 h6 h7
  refine ⟨fun c => Cert.KernelIdeal.Value.G8 (F := Ideal) m c, fun c => Cert.KernelIdeal.Value.G9 (F := Ideal) m c,
    fun c => Cert.KernelIdeal.Value.G10 (F := Ideal) m c, fun c => Cert.KernelIdeal.Value.G11 (F := Ideal) m c,
    fun c => Cert.KernelIdeal.Value.G12 (F := Ideal) m c, fun c => Cert.KernelIdeal.Value.G13 (F := Ideal) m c,
    fun c => Cert.KernelIdeal.Value.G14 (F := Ideal) m c, Cert.KernelIdeal.Value.run (F := Ideal) m g, ?_⟩
  refine (θ_run _ _ _).mono (fun r h c => ?_)
    (θ_run_and (Cert.ReferenceIdeal.RefValue.run m' g') (Cert.ReferenceIdeal.Gen.frame (F := Ideal) m' g'))
  obtain ⟨h1, h2, h3, h4, h5, h6, h7⟩ := h.1 c
  rw [ha c] at h1 h2 h3 h4 h5 h6 h7
  exact ⟨h1.trans (Cert.KernelIdeal.Tiles.G8_eq m c).symm, h2.trans (Cert.KernelIdeal.Tiles.G9_eq m c).symm,
    h3.trans (Cert.KernelIdeal.Tiles.G10_eq m c).symm, h4.trans (Cert.KernelIdeal.Tiles.G11_eq m c).symm,
    h5.trans (Cert.KernelIdeal.Tiles.G12_eq m c).symm, h6.trans (Cert.KernelIdeal.Tiles.G13_eq m c).symm,
    h7.trans (Cert.KernelIdeal.Tiles.G14_eq m c).symm, h.2.1 c⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, algebraic⟩

end Cert.Proof

end
